-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v57) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v276) = v1 c
          ∧ r.2.mem ((c.tc : Thread Cert.ReferenceIdeal.nD Cert.ReferenceIdeal.τ).loc Cert.ReferenceIdeal.main_v275) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4x100x200 : Shape := ⟨4, ![2, 4, 100, 200]⟩
abbrev S2x1x100x200 : Shape := ⟨4, ![2, 1, 100, 200]⟩
abbrev S20000x4 : Shape := ⟨2, ![20000, 4]⟩
abbrev S2x80x100x200 : Shape := ⟨4, ![2, 80, 100, 200]⟩
abbrev S2x20000x256 : Shape := ⟨3, ![2, 20000, 256]⟩
abbrev S40000x256 : Shape := ⟨2, ![40000, 256]⟩
abbrev S40000x1 : Shape := ⟨2, ![40000, 1]⟩
abbrev S40000x80 : Shape := ⟨2, ![40000, 80]⟩
abbrev S2000x128 : Shape := ⟨2, ![2000, 128]⟩
abbrev S2000x1 : Shape := ⟨2, ![2000, 1]⟩
abbrev S2000x80 : Shape := ⟨2, ![2000, 80]⟩
abbrev S2x1600000 : Shape := ⟨2, ![2, 1600000]⟩
abbrev S2x1000 : Shape := ⟨2, ![2, 1000]⟩
abbrev S_ : Shape := ⟨0, ![]⟩
abbrev S2x100x200x4 : Shape := ⟨4, ![2, 100, 200, 4]⟩
abbrev S2x20000x4 : Shape := ⟨3, ![2, 20000, 4]⟩
abbrev S2x1000x1 : Shape := ⟨3, ![2, 1000, 1]⟩
abbrev S1 : Shape := ⟨1, ![1]⟩
abbrev S1x1x1 : Shape := ⟨3, ![1, 1, 1]⟩
abbrev S2x1000x4 : Shape := ⟨3, ![2, 1000, 4]⟩
abbrev S2x4x1000 : Shape := ⟨3, ![2, 4, 1000]⟩
abbrev S2x4x1024 : Shape := ⟨3, ![2, 4, 1024]⟩
abbrev S2x1x1000 : Shape := ⟨3, ![2, 1, 1000]⟩
abbrev S2x1x1024 : Shape := ⟨3, ![2, 1, 1024]⟩
abbrev S1x4x1024 : Shape := ⟨3, ![1, 4, 1024]⟩
abbrev S1x1x1024 : Shape := ⟨3, ![1, 1, 1024]⟩
abbrev S4x1024 : Shape := ⟨2, ![4, 1024]⟩
abbrev S1x1024 : Shape := ⟨2, ![1, 1024]⟩
abbrev S2x100 : Shape := ⟨2, ![2, 100]⟩
abbrev S2x100x1 : Shape := ⟨3, ![2, 100, 1]⟩
abbrev S2x100x4 : Shape := ⟨3, ![2, 100, 4]⟩

abbrev nBuf : Space → Nat
  | .hbm => 284
  | .vmem => 20
  | .smem => 0
  | _ => 0

abbrev hbmTy0_0 (i : Nat) : BufTy := match i % 128 with
  | 0 => ⟨S2x4x100x200, .f32⟩
  | 1 => ⟨S2x1x100x200, .f32⟩
  | 2 => ⟨S20000x4, .f32⟩
  | 3 => ⟨S2x80x100x200, .f32⟩
  | 4 => ⟨S2x20000x256, .f32⟩
  | 5 => ⟨S40000x256, .f32⟩
  | 6 => ⟨S40000x1, .f32⟩
  | 7 => ⟨S40000x80, .f32⟩
  | 8 => ⟨S2x1600000, .f32⟩
  | 9 => ⟨S2x1000, .f32⟩
  | 10 => ⟨S2x1000, .i32⟩
  | 11 => ⟨S_, .i32⟩
  | 12 => ⟨S_, .i32⟩
  | 13 => ⟨S2x1000, .i32⟩
  | 14 => ⟨S2x1000, .i32⟩
  | 15 => ⟨S2x1000, .i32⟩
  | 16 => ⟨S_, .i32⟩
  | 17 => ⟨S2x1000, .i32⟩
  | 18 => ⟨S2x1000, .i1⟩
  | 19 => ⟨S2x1000, .i32⟩
  | 20 => ⟨S2x1000, .i32⟩
  | 21 => ⟨S_, .i32⟩
  | 22 => ⟨S2x1000, .i32⟩
  | 23 => ⟨S2x1000, .i1⟩
  | 24 => ⟨S2x1000, .i1⟩
  | 25 => ⟨S_, .i32⟩
  | 26 => ⟨S2x1000, .i32⟩
  | 27 => ⟨S2x1000, .i32⟩
  | 28 => ⟨S2x1000, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S2x1000, .i32⟩
  | 36 => ⟨S2x1000, .i32⟩
  | 37 => ⟨S_, .i32⟩
  | 38 => ⟨S2x1000, .i32⟩
  | 39 => ⟨S2x1000, .i1⟩
  | 40 => ⟨S_, .i32⟩
  | 41 => ⟨S2x1000, .i32⟩
  | 42 => ⟨S2x1000, .i1⟩
  | 43 => ⟨S_, .i32⟩
  | 44 => ⟨S_, .i1⟩
  | 45 => ⟨S2x1000, .i1⟩
  | 46 => ⟨S2x1000, .i1⟩
  | 47 => ⟨S2x1000, .i1⟩
  | 48 => ⟨S2x1000, .i32⟩
  | 49 => ⟨S2x1000, .i32⟩
  | 50 => ⟨S2x1000, .i32⟩
  | 51 => ⟨S_, .i32⟩
  | 52 => ⟨S2x1000, .i32⟩
  | 53 => ⟨S2x1000, .i32⟩
  | 54 => ⟨S2x100x200x4, .f32⟩
  | 55 => ⟨S2x20000x4, .f32⟩
  | 56 => ⟨S2x1000x1, .i32⟩
  | 57 => ⟨S_, .i32⟩
  | 58 => ⟨S2x1000x1, .i32⟩
  | 59 => ⟨S2x1000x1, .i1⟩
  | 60 => ⟨S_, .i32⟩
  | 61 => ⟨S2x1000x1, .i32⟩
  | 62 => ⟨S2x1000x1, .i32⟩
  | 63 => ⟨S2x1000x1, .i32⟩
  | 64 => ⟨S1, .i32⟩
  | 65 => ⟨S_, .i32⟩
  | 66 => ⟨S2x1000x1, .i32⟩
  | 67 => ⟨S2x1000x1, .i1⟩
  | 68 => ⟨S1x1x1, .i32⟩
  | 69 => ⟨S2x1000x1, .i32⟩
  | 70 => ⟨S2x1000x1, .i1⟩
  | 71 => ⟨S2x1000x1, .i1⟩
  | 72 => ⟨S_, .i1⟩
  | 73 => ⟨S2x1000, .i1⟩
  | 74 => ⟨S2x1000x4, .f32⟩
  | 75 => ⟨S2x1000x4, .i1⟩
  | 76 => ⟨S_, .f32⟩
  | 77 => ⟨S2x1000x4, .f32⟩
  | 78 => ⟨S2x1000x4, .f32⟩
  | 79 => ⟨S_, .i32⟩
  | 80 => ⟨S2x1000, .i32⟩
  | 81 => ⟨S2x1000, .i1⟩
  | 82 => ⟨S_, .i32⟩
  | 83 => ⟨S2x1000, .i32⟩
  | 84 => ⟨S2x1000, .i32⟩
  | 85 => ⟨S2x1000, .i32⟩
  | 86 => ⟨S2x1000x1, .i32⟩
  | 87 => ⟨S2x1000x4, .f32⟩
  | 88 => ⟨S2x4x1000, .f32⟩
  | 89 => ⟨S_, .i32⟩
  | 90 => ⟨S_, .f32⟩
  | 91 => ⟨S2x4x1024, .f32⟩
  | 92 => ⟨S2x4x1000, .f32⟩
  | 93 => ⟨S_, .i32⟩
  | 94 => ⟨S_, .f32⟩
  | 95 => ⟨S2x4x1024, .f32⟩
  | 96 => ⟨S2x1x1000, .f32⟩
  | 97 => ⟨S_, .f32⟩
  | 98 => ⟨S_, .f32⟩
  | 99 => ⟨S2x1x1024, .f32⟩
  | 100 => ⟨S2x1000, .f32⟩
  | 101 => ⟨S2x1x1000, .f32⟩
  | 102 => ⟨S_, .i32⟩
  | 103 => ⟨S_, .f32⟩
  | 104 => ⟨S2x1x1024, .f32⟩
  | 105 => ⟨S2x4x1024, .f32⟩
  | 106 => ⟨S2x1x1024, .f32⟩
  | 107 => ⟨S2x1x1024, .f32⟩
  | 108 => ⟨S2x4x1000, .f32⟩
  | 109 => ⟨S2x1000x4, .f32⟩
  | 110 => ⟨S2x1x1000, .f32⟩
  | 111 => ⟨S2x1000, .f32⟩
  | 112 => ⟨S_, .f32⟩
  | 113 => ⟨S2x1000, .f32⟩
  | 114 => ⟨S2x1000, .i1⟩
  | 115 => ⟨S2x1x1000, .f32⟩
  | 116 => ⟨S2x1000, .f32⟩
  | 117 => ⟨S_, .f32⟩
  | 118 => ⟨S2x1000, .f32⟩
  | 119 => ⟨S2x1000, .i1⟩
  | 120 => ⟨S_, .f32⟩
  | 121 => ⟨S2x1000, .f32⟩
  | 122 => ⟨S2x1000, .f32⟩
  | 123 => ⟨S2x1000, .f32⟩
  | 124 => ⟨S_, .f32⟩
  | 125 => ⟨S_, .f32⟩
  | 126 => ⟨S2x1000, .f32⟩
  | 127 => ⟨S2x1000, .f32⟩
  | _ => ⟨S2x4x100x200, .f32⟩

abbrev hbmTy0_1 (i : Nat) : BufTy := match i % 128 with
  | 0 => ⟨S2x1000, .f32⟩
  | 1 => ⟨S2x1000, .i32⟩
  | 2 => ⟨S2x1000, .f32⟩
  | 3 => ⟨S2x1000, .i32⟩
  | 4 => ⟨S_, .i32⟩
  | 5 => ⟨S2x1000, .i32⟩
  | 6 => ⟨S2x1000, .i1⟩
  | 7 => ⟨S_, .i32⟩
  | 8 => ⟨S2x1000, .i32⟩
  | 9 => ⟨S2x1000, .i32⟩
  | 10 => ⟨S2x1000, .i32⟩
  | 11 => ⟨S2x1000x1, .i32⟩
  | 12 => ⟨S1, .i32⟩
  | 13 => ⟨S_, .i32⟩
  | 14 => ⟨S2x1000x1, .i32⟩
  | 15 => ⟨S2x1000x1, .i1⟩
  | 16 => ⟨S1x1x1, .i32⟩
  | 17 => ⟨S2x1000x1, .i32⟩
  | 18 => ⟨S2x1000x1, .i1⟩
  | 19 => ⟨S2x1000x1, .i1⟩
  | 20 => ⟨S_, .i1⟩
  | 21 => ⟨S2x1000, .i1⟩
  | 22 => ⟨S2x1000, .f32⟩
  | 23 => ⟨S_, .f32⟩
  | 24 => ⟨S2x1000, .f32⟩
  | 25 => ⟨S2x1000, .f32⟩
  | 26 => ⟨S2x1000x1, .i32⟩
  | 27 => ⟨S_, .i32⟩
  | 28 => ⟨S2x1000x1, .i32⟩
  | 29 => ⟨S2x1000x1, .i1⟩
  | 30 => ⟨S_, .i32⟩
  | 31 => ⟨S2x1000x1, .i32⟩
  | 32 => ⟨S2x1000x1, .i32⟩
  | 33 => ⟨S2x1000x1, .i32⟩
  | 34 => ⟨S1, .i32⟩
  | 35 => ⟨S_, .i32⟩
  | 36 => ⟨S2x1000x1, .i32⟩
  | 37 => ⟨S2x1000x1, .i1⟩
  | 38 => ⟨S1x1x1, .i32⟩
  | 39 => ⟨S2x1000x1, .i32⟩
  | 40 => ⟨S2x1000x1, .i1⟩
  | 41 => ⟨S2x1000x1, .i1⟩
  | 42 => ⟨S_, .i1⟩
  | 43 => ⟨S2x1000, .i1⟩
  | 44 => ⟨S2x1000x4, .f32⟩
  | 45 => ⟨S2x1000x4, .i1⟩
  | 46 => ⟨S_, .f32⟩
  | 47 => ⟨S2x1000x4, .f32⟩
  | 48 => ⟨S2x1000x4, .f32⟩
  | 49 => ⟨S_, .i32⟩
  | 50 => ⟨S2x1000, .i32⟩
  | 51 => ⟨S2x1000, .i1⟩
  | 52 => ⟨S_, .i32⟩
  | 53 => ⟨S2x1000, .i32⟩
  | 54 => ⟨S2x1000, .i32⟩
  | 55 => ⟨S2x1000, .i32⟩
  | 56 => ⟨S2x1000x1, .i32⟩
  | 57 => ⟨S1, .i32⟩
  | 58 => ⟨S_, .i32⟩
  | 59 => ⟨S2x1000x1, .i32⟩
  | 60 => ⟨S2x1000x1, .i1⟩
  | 61 => ⟨S1x1x1, .i32⟩
  | 62 => ⟨S2x1000x1, .i32⟩
  | 63 => ⟨S2x1000x1, .i1⟩
  | 64 => ⟨S2x1000x1, .i1⟩
  | 65 => ⟨S_, .i1⟩
  | 66 => ⟨S2x1000, .i1⟩
  | 67 => ⟨S2x1000, .i32⟩
  | 68 => ⟨S_, .i32⟩
  | 69 => ⟨S2x1000, .i32⟩
  | 70 => ⟨S2x1000, .i32⟩
  | 71 => ⟨S2x1000, .i1⟩
  | 72 => ⟨S_, .i32⟩
  | 73 => ⟨S2x1000, .i32⟩
  | 74 => ⟨S2x1000, .i1⟩
  | 75 => ⟨S_, .i32⟩
  | 76 => ⟨S2x1000, .i32⟩
  | 77 => ⟨S2x1000, .i32⟩
  | 78 => ⟨S2x1000, .i32⟩
  | 79 => ⟨S2x1000x1, .i32⟩
  | 80 => ⟨S1, .i32⟩
  | 81 => ⟨S_, .i32⟩
  | 82 => ⟨S2x1000x1, .i32⟩
  | 83 => ⟨S2x1000x1, .i1⟩
  | 84 => ⟨S1x1x1, .i32⟩
  | 85 => ⟨S2x1000x1, .i32⟩
  | 86 => ⟨S2x1000x1, .i1⟩
  | 87 => ⟨S2x1000x1, .i1⟩
  | 88 => ⟨S_, .i1⟩
  | 89 => ⟨S2x1000, .i1⟩
  | 90 => ⟨S2x1000, .i1⟩
  | 91 => ⟨S_, .i1⟩
  | 92 => ⟨S2x1000, .i1⟩
  | 93 => ⟨S2x1000, .i1⟩
  | 94 => ⟨S_, .f32⟩
  | 95 => ⟨S_, .f32⟩
  | 96 => ⟨S2x1000, .f32⟩
  | 97 => ⟨S2x1000, .f32⟩
  | 98 => ⟨S2x100, .f32⟩
  | 99 => ⟨S2x100, .i32⟩
  | 100 => ⟨S2x100x1, .i32⟩
  | 101 => ⟨S_, .i32⟩
  | 102 => ⟨S2x100x1, .i32⟩
  | 103 => ⟨S2x100x1, .i1⟩
  | 104 => ⟨S_, .i32⟩
  | 105 => ⟨S2x100x1, .i32⟩
  | 106 => ⟨S2x100x1, .i32⟩
  | 107 => ⟨S2x100x1, .i32⟩
  | 108 => ⟨S1, .i32⟩
  | 109 => ⟨S_, .i32⟩
  | 110 => ⟨S2x100x1, .i32⟩
  | 111 => ⟨S2x100x1, .i1⟩
  | 112 => ⟨S1x1x1, .i32⟩
  | 113 => ⟨S2x100x1, .i32⟩
  | 114 => ⟨S2x100x1, .i1⟩
  | 115 => ⟨S2x100x1, .i1⟩
  | 116 => ⟨S_, .i1⟩
  | 117 => ⟨S2x100, .i1⟩
  | 118 => ⟨S2x100x4, .f32⟩
  | 119 => ⟨S2x100x4, .i1⟩
  | 120 => ⟨S_, .f32⟩
  | 121 => ⟨S2x100x4, .f32⟩
  | 122 => ⟨S2x100x4, .f32⟩
  | 123 => ⟨S_, .f32⟩
  | 124 => ⟨S2x100, .f32⟩
  | 125 => ⟨S2x100, .i1⟩
  | 126 => ⟨S_, .i32⟩
  | 127 => ⟨S2x100, .i32⟩
  | _ => ⟨S2x4x100x200, .f32⟩

abbrev hbmTy0_2 (i : Nat) : BufTy := match i % 128 with
  | 0 => ⟨S2x100, .i1⟩
  | 1 => ⟨S_, .i32⟩
  | 2 => ⟨S2x100, .i32⟩
  | 3 => ⟨S2x100, .i32⟩
  | 4 => ⟨S2x100, .i32⟩
  | 5 => ⟨S2x100x1, .i32⟩
  | 6 => ⟨S1, .i32⟩
  | 7 => ⟨S_, .i32⟩
  | 8 => ⟨S2x100x1, .i32⟩
  | 9 => ⟨S2x100x1, .i1⟩
  | 10 => ⟨S1x1x1, .i32⟩
  | 11 => ⟨S2x100x1, .i32⟩
  | 12 => ⟨S2x100x1, .i1⟩
  | 13 => ⟨S2x100x1, .i1⟩
  | 14 => ⟨S_, .i1⟩
  | 15 => ⟨S2x100, .i1⟩
  | 16 => ⟨S2x100, .i32⟩
  | 17 => ⟨S_, .i32⟩
  | 18 => ⟨S2x100, .i32⟩
  | 19 => ⟨S2x100, .i32⟩
  | 20 => ⟨S_, .i32⟩
  | 21 => ⟨S_, .i32⟩
  | 22 => ⟨S2x100, .i32⟩
  | 23 => ⟨S2x100, .i32⟩
  | 24 => ⟨S_, .f32⟩
  | 25 => ⟨S_, .f32⟩
  | 26 => ⟨S2x100, .f32⟩
  | 27 => ⟨S2x100, .f32⟩
  | _ => ⟨S2x4x100x200, .f32⟩

abbrev hbmTy (i : Nat) : BufTy := match i / 128 with
  | 0 => hbmTy0_0 i
  | 1 => hbmTy0_1 i
  | 2 => hbmTy0_2 i
  | _ => ⟨S2x4x100x200, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x80, .f32⟩
  | .local _ .vmem, ⟨5, _⟩ => ⟨S2000x80, .f32⟩
  | .local _ .vmem, ⟨6, _⟩ => ⟨S1x4x1024, .f32⟩
  | .local _ .vmem, ⟨7, _⟩ => ⟨S1x4x1024, .f32⟩
  | .local _ .vmem, ⟨8, _⟩ => ⟨S1x4x1024, .f32⟩
  | .local _ .vmem, ⟨9, _⟩ => ⟨S1x4x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x4x1024, .f32⟩
  | .local _ .vmem, ⟨15, _⟩ => ⟨S1x4x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | _, _ => ⟨S2x4x100x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v5 : Ref sig .tc := ⟨.hbm, 50, rfl⟩
abbrev main_c_1 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_c_2 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_c_3 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_cst : Ref sig .tc := ⟨.hbm, 76, rfl⟩
abbrev main_call2_v14 : Ref sig .tc := ⟨.hbm, 77, rfl⟩
abbrev main_v11 : Ref sig .tc := ⟨.hbm, 78, rfl⟩
abbrev main_c_2 : Ref sig .tc := ⟨.hbm, 79, rfl⟩
abbrev main_v12 : Ref sig .tc := ⟨.hbm, 80, rfl⟩
abbrev main_v13 : Ref sig .tc := ⟨.hbm, 81, rfl⟩
abbrev main_c_3 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_c_4 : Ref sig .tc := ⟨.hbm, 89, rfl⟩
abbrev main_call3_v0 : Ref sig .tc := ⟨.hbm, 90, rfl⟩
abbrev main_v20 : Ref sig .tc := ⟨.hbm, 91, rfl⟩
abbrev main_v21 : Ref sig .tc := ⟨.hbm, 92, rfl⟩
abbrev main_c_5 : Ref sig .tc := ⟨.hbm, 93, rfl⟩
abbrev main_call4_v0 : Ref sig .tc := ⟨.hbm, 94, rfl⟩
abbrev main_v22 : Ref sig .tc := ⟨.hbm, 95, rfl⟩
abbrev main_v23 : Ref sig .tc := ⟨.hbm, 96, rfl⟩
abbrev main_cst : Ref sig .tc := ⟨.hbm, 97, rfl⟩
abbrev main_call5_v0 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_c_6 : Ref sig .tc := ⟨.hbm, 102, rfl⟩
abbrev main_call6_v0 : Ref sig .tc := ⟨.hbm, 103, rfl⟩
abbrev main_v27 : Ref sig .tc := ⟨.hbm, 104, rfl⟩
abbrev main_v28_0 : Ref sig .tc := ⟨.hbm, 105, rfl⟩
abbrev main_v28_1 : Ref sig .tc := ⟨.hbm, 106, rfl⟩
abbrev main_v28_2 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_cst_7 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_cst_8 : Ref sig .tc := ⟨.hbm, 117, rfl⟩
abbrev main_v37 : Ref sig .tc := ⟨.hbm, 118, rfl⟩
abbrev main_v38 : Ref sig .tc := ⟨.hbm, 119, rfl⟩
abbrev main_cst_9 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_cst_10 : Ref sig .tc := ⟨.hbm, 124, rfl⟩
abbrev main_call7_v0 : Ref sig .tc := ⟨.hbm, 125, rfl⟩
abbrev main_call7_v1 : Ref sig .tc := ⟨.hbm, 126, rfl⟩
abbrev main_v42 : Ref sig .tc := ⟨.hbm, 127, rfl⟩
abbrev main_v43 : Ref sig .tc := ⟨.hbm, 128, rfl⟩
abbrev main_call8_v0 : Ref sig .tc := ⟨.hbm, 129, rfl⟩
abbrev main_call8_v1_0 : Ref sig .tc := ⟨.hbm, 130, rfl⟩
abbrev main_v44 : Ref sig .tc := ⟨.hbm, 131, rfl⟩
abbrev main_call9_c : Ref sig .tc := ⟨.hbm, 132, rfl⟩
abbrev main_call9_v0 : Ref sig .tc := ⟨.hbm, 133, rfl⟩
abbrev main_call9_v1 : Ref sig .tc := ⟨.hbm, 134, rfl⟩
abbrev main_call9_c_0 : Ref sig .tc := ⟨.hbm, 135, rfl⟩
abbrev main_call9_v2 : Ref sig .tc := ⟨.hbm, 136, rfl⟩
abbrev main_call9_v3 : Ref sig .tc := ⟨.hbm, 137, rfl⟩
abbrev main_call9_v4 : Ref sig .tc := ⟨.hbm, 138, rfl⟩
abbrev main_call9_v5 : Ref sig .tc := ⟨.hbm, 139, rfl⟩
abbrev main_call9_c_1 : Ref sig .tc := ⟨.hbm, 140, rfl⟩
abbrev main_call9_c_2 : Ref sig .tc := ⟨.hbm, 141, rfl⟩
abbrev main_call9_v6 : Ref sig .tc := ⟨.hbm, 142, rfl⟩
abbrev main_call9_v7 : Ref sig .tc := ⟨.hbm, 143, rfl⟩
abbrev main_call9_v8 : Ref sig .tc := ⟨.hbm, 144, rfl⟩
abbrev main_call9_v9 : Ref sig .tc := ⟨.hbm, 145, rfl⟩
abbrev main_call9_v10 : Ref sig .tc := ⟨.hbm, 146, rfl⟩
abbrev main_call9_v11 : Ref sig .tc := ⟨.hbm, 147, rfl⟩
abbrev main_call9_c_3 : Ref sig .tc := ⟨.hbm, 148, rfl⟩
abbrev main_call9_v12 : Ref sig .tc := ⟨.hbm, 149, rfl⟩
abbrev main_call9_v13 : Ref sig .tc := ⟨.hbm, 150, rfl⟩
abbrev main_call9_cst : Ref sig .tc := ⟨.hbm, 151, rfl⟩
abbrev main_call9_v14 : Ref sig .tc := ⟨.hbm, 152, rfl⟩
abbrev main_v45 : Ref sig .tc := ⟨.hbm, 153, rfl⟩
abbrev main_v46 : Ref sig .tc := ⟨.hbm, 154, rfl⟩
abbrev main_call10_c : Ref sig .tc := ⟨.hbm, 155, rfl⟩
abbrev main_call10_v0 : Ref sig .tc := ⟨.hbm, 156, rfl⟩
abbrev main_call10_v1 : Ref sig .tc := ⟨.hbm, 157, rfl⟩
abbrev main_call10_c_0 : Ref sig .tc := ⟨.hbm, 158, rfl⟩
abbrev main_call10_v2 : Ref sig .tc := ⟨.hbm, 159, rfl⟩
abbrev main_call10_v3 : Ref sig .tc := ⟨.hbm, 160, rfl⟩
abbrev main_call10_v4 : Ref sig .tc := ⟨.hbm, 161, rfl⟩
abbrev main_call10_c_1 : Ref sig .tc := ⟨.hbm, 162, rfl⟩
abbrev main_call10_c_2 : Ref sig .tc := ⟨.hbm, 163, rfl⟩
abbrev main_call10_v5 : Ref sig .tc := ⟨.hbm, 164, rfl⟩
abbrev main_call10_v6 : Ref sig .tc := ⟨.hbm, 165, rfl⟩
abbrev main_call10_v7 : Ref sig .tc := ⟨.hbm, 166, rfl⟩
abbrev main_call10_v8 : Ref sig .tc := ⟨.hbm, 167, rfl⟩
abbrev main_call10_v9 : Ref sig .tc := ⟨.hbm, 168, rfl⟩
abbrev main_call10_v10 : Ref sig .tc := ⟨.hbm, 169, rfl⟩
abbrev main_call10_c_3 : Ref sig .tc := ⟨.hbm, 170, rfl⟩
abbrev main_call10_v11 : Ref sig .tc := ⟨.hbm, 171, rfl⟩
abbrev main_call10_v12 : Ref sig .tc := ⟨.hbm, 172, rfl⟩
abbrev main_call10_v13 : Ref sig .tc := ⟨.hbm, 173, rfl⟩
abbrev main_call10_cst : Ref sig .tc := ⟨.hbm, 174, rfl⟩
abbrev main_call10_v14 : Ref sig .tc := ⟨.hbm, 175, rfl⟩
abbrev main_v47 : Ref sig .tc := ⟨.hbm, 176, rfl⟩
abbrev main_call11_c : Ref sig .tc := ⟨.hbm, 177, rfl⟩
abbrev main_call11_v0 : Ref sig .tc := ⟨.hbm, 178, rfl⟩
abbrev main_call11_v1 : Ref sig .tc := ⟨.hbm, 179, rfl⟩
abbrev main_call11_c_0 : Ref sig .tc := ⟨.hbm, 180, rfl⟩
abbrev main_call11_v2 : Ref sig .tc := ⟨.hbm, 181, rfl⟩
abbrev main_call11_v3 : Ref sig .tc := ⟨.hbm, 182, rfl⟩
abbrev main_call11_v4 : Ref sig .tc := ⟨.hbm, 183, rfl⟩
abbrev main_call11_v5 : Ref sig .tc := ⟨.hbm, 184, rfl⟩
abbrev main_call11_c_1 : Ref sig .tc := ⟨.hbm, 185, rfl⟩
abbrev main_call11_c_2 : Ref sig .tc := ⟨.hbm, 186, rfl⟩
abbrev main_call11_v6 : Ref sig .tc := ⟨.hbm, 187, rfl⟩
abbrev main_call11_v7 : Ref sig .tc := ⟨.hbm, 188, rfl⟩
abbrev main_call11_v8 : Ref sig .tc := ⟨.hbm, 189, rfl⟩
abbrev main_call11_v9 : Ref sig .tc := ⟨.hbm, 190, rfl⟩
abbrev main_call11_v10 : Ref sig .tc := ⟨.hbm, 191, rfl⟩
abbrev main_call11_v11 : Ref sig .tc := ⟨.hbm, 192, rfl⟩
abbrev main_call11_c_3 : Ref sig .tc := ⟨.hbm, 193, rfl⟩
abbrev main_call11_v12 : Ref sig .tc := ⟨.hbm, 194, rfl⟩
abbrev main_call11_v13 : Ref sig .tc := ⟨.hbm, 195, rfl⟩
abbrev main_call11_c_4 : Ref sig .tc := ⟨.hbm, 196, rfl⟩
abbrev main_call11_v14 : Ref sig .tc := ⟨.hbm, 197, rfl⟩
abbrev main_v48 : Ref sig .tc := ⟨.hbm, 198, rfl⟩
abbrev main_v49 : Ref sig .tc := ⟨.hbm, 199, rfl⟩
abbrev main_call12_c : Ref sig .tc := ⟨.hbm, 200, rfl⟩
abbrev main_call12_v0 : Ref sig .tc := ⟨.hbm, 201, rfl⟩
abbrev main_call12_v1 : Ref sig .tc := ⟨.hbm, 202, rfl⟩
abbrev main_call12_c_0 : Ref sig .tc := ⟨.hbm, 203, rfl⟩
abbrev main_call12_v2 : Ref sig .tc := ⟨.hbm, 204, rfl⟩
abbrev main_call12_v3 : Ref sig .tc := ⟨.hbm, 205, rfl⟩
abbrev main_call12_v4 : Ref sig .tc := ⟨.hbm, 206, rfl⟩
abbrev main_call12_v5 : Ref sig .tc := ⟨.hbm, 207, rfl⟩
abbrev main_call12_c_1 : Ref sig .tc := ⟨.hbm, 208, rfl⟩
abbrev main_call12_c_2 : Ref sig .tc := ⟨.hbm, 209, rfl⟩
abbrev main_call12_v6 : Ref sig .tc := ⟨.hbm, 210, rfl⟩
abbrev main_call12_v7 : Ref sig .tc := ⟨.hbm, 211, rfl⟩
abbrev main_call12_v8 : Ref sig .tc := ⟨.hbm, 212, rfl⟩
abbrev main_call12_v9 : Ref sig .tc := ⟨.hbm, 213, rfl⟩
abbrev main_call12_v10 : Ref sig .tc := ⟨.hbm, 214, rfl⟩
abbrev main_call12_v11 : Ref sig .tc := ⟨.hbm, 215, rfl⟩
abbrev main_call12_c_3 : Ref sig .tc := ⟨.hbm, 216, rfl⟩
abbrev main_call12_v12 : Ref sig .tc := ⟨.hbm, 217, rfl⟩
abbrev main_call12_v13 : Ref sig .tc := ⟨.hbm, 218, rfl⟩
abbrev main_call12_c_4 : Ref sig .tc := ⟨.hbm, 219, rfl⟩
abbrev main_call12_v14 : Ref sig .tc := ⟨.hbm, 220, rfl⟩
abbrev main_v50 : Ref sig .tc := ⟨.hbm, 221, rfl⟩
abbrev main_cst_11 : Ref sig .tc := ⟨.hbm, 222, rfl⟩
abbrev main_call13_v0 : Ref sig .tc := ⟨.hbm, 223, rfl⟩
abbrev main_call13_v1 : Ref sig .tc := ⟨.hbm, 224, rfl⟩
abbrev main_v51 : Ref sig .tc := ⟨.hbm, 225, rfl⟩
abbrev main_values_12 : Ref sig .tc := ⟨.hbm, 226, rfl⟩
abbrev main_indices_13 : Ref sig .tc := ⟨.hbm, 227, rfl⟩
abbrev main_v52 : Ref sig .tc := ⟨.hbm, 228, rfl⟩
abbrev main_call14_c : Ref sig .tc := ⟨.hbm, 229, rfl⟩
abbrev main_call14_v0 : Ref sig .tc := ⟨.hbm, 230, rfl⟩
abbrev main_call14_v1 : Ref sig .tc := ⟨.hbm, 231, rfl⟩
abbrev main_call14_c_0 : Ref sig .tc := ⟨.hbm, 232, rfl⟩
abbrev main_call14_v2 : Ref sig .tc := ⟨.hbm, 233, rfl⟩
abbrev main_call14_v3 : Ref sig .tc := ⟨.hbm, 234, rfl⟩
abbrev main_call14_v4 : Ref sig .tc := ⟨.hbm, 235, rfl⟩
abbrev main_call14_c_1 : Ref sig .tc := ⟨.hbm, 236, rfl⟩
abbrev main_call14_c_2 : Ref sig .tc := ⟨.hbm, 237, rfl⟩
abbrev main_call14_v5 : Ref sig .tc := ⟨.hbm, 238, rfl⟩
abbrev main_call14_v6 : Ref sig .tc := ⟨.hbm, 239, rfl⟩
abbrev main_call14_v7 : Ref sig .tc := ⟨.hbm, 240, rfl⟩
abbrev main_call14_v8 : Ref sig .tc := ⟨.hbm, 241, rfl⟩
abbrev main_call14_v9 : Ref sig .tc := ⟨.hbm, 242, rfl⟩
abbrev main_call14_v10 : Ref sig .tc := ⟨.hbm, 243, rfl⟩
abbrev main_call14_c_3 : Ref sig .tc := ⟨.hbm, 244, rfl⟩
abbrev main_call14_v11 : Ref sig .tc := ⟨.hbm, 245, rfl⟩
abbrev main_call14_v12 : Ref sig .tc := ⟨.hbm, 246, rfl⟩
abbrev main_call14_v13 : Ref sig .tc := ⟨.hbm, 247, rfl⟩
abbrev main_call14_cst : Ref sig .tc := ⟨.hbm, 248, rfl⟩
abbrev main_call14_v14 : Ref sig .tc := ⟨.hbm, 249, rfl⟩
abbrev main_v53 : Ref sig .tc := ⟨.hbm, 250, rfl⟩
abbrev main_cst_14 : Ref sig .tc := ⟨.hbm, 251, rfl⟩
abbrev main_v54 : Ref sig .tc := ⟨.hbm, 252, rfl⟩
abbrev main_v55 : Ref sig .tc := ⟨.hbm, 253, rfl⟩
abbrev main_call15_c : Ref sig .tc := ⟨.hbm, 254, rfl⟩
abbrev main_call15_v0 : Ref sig .tc := ⟨.hbm, 255, rfl⟩
abbrev main_call15_v1 : Ref sig .tc := ⟨.hbm, 256, rfl⟩
abbrev main_call15_c_0 : Ref sig .tc := ⟨.hbm, 257, rfl⟩
abbrev main_call15_v2 : Ref sig .tc := ⟨.hbm, 258, rfl⟩
abbrev main_call15_v3 : Ref sig .tc := ⟨.hbm, 259, rfl⟩
abbrev main_call15_v4 : Ref sig .tc := ⟨.hbm, 260, rfl⟩
abbrev main_call15_v5 : Ref sig .tc := ⟨.hbm, 261, rfl⟩
abbrev main_call15_c_1 : Ref sig .tc := ⟨.hbm, 262, rfl⟩
abbrev main_call15_c_2 : Ref sig .tc := ⟨.hbm, 263, rfl⟩
abbrev main_call15_v6 : Ref sig .tc := ⟨.hbm, 264, rfl⟩
abbrev main_call15_v7 : Ref sig .tc := ⟨.hbm, 265, rfl⟩
abbrev main_call15_v8 : Ref sig .tc := ⟨.hbm, 266, rfl⟩
abbrev main_call15_v9 : Ref sig .tc := ⟨.hbm, 267, rfl⟩
abbrev main_call15_v10 : Ref sig .tc := ⟨.hbm, 268, rfl⟩
abbrev main_call15_v11 : Ref sig .tc := ⟨.hbm, 269, rfl⟩
abbrev main_call15_c_3 : Ref sig .tc := ⟨.hbm, 270, rfl⟩
abbrev main_call15_v12 : Ref sig .tc := ⟨.hbm, 271, rfl⟩
abbrev main_call15_v13 : Ref sig .tc := ⟨.hbm, 272, rfl⟩
abbrev main_call15_c_4 : Ref sig .tc := ⟨.hbm, 273, rfl⟩
abbrev main_call15_v14 : Ref sig .tc := ⟨.hbm, 274, rfl⟩
abbrev main_v56 : Ref sig .tc := ⟨.hbm, 275, rfl⟩
abbrev main_c_15 : Ref sig .tc := ⟨.hbm, 276, rfl⟩
abbrev main_call16_v0 : Ref sig .tc := ⟨.hbm, 277, rfl⟩
abbrev main_call16_v1 : Ref sig .tc := ⟨.hbm, 278, rfl⟩
abbrev main_v57 : Ref sig .tc := ⟨.hbm, 279, rfl⟩
abbrev main_cst_16 : Ref sig .tc := ⟨.hbm, 280, rfl⟩
abbrev main_call17_v0 : Ref sig .tc := ⟨.hbm, 281, rfl⟩
abbrev main_call17_v1 : Ref sig .tc := ⟨.hbm, 282, rfl⟩
abbrev main_v58 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

@[reducible] def k1_t1_loop : Scf.Loop 32 :=
  let c0_i32 : BitVec 32 := 0#32
  let c1000_i32 : BitVec 32 := 1000#32
  let v102 : BitVec 32 := Scalar.addi c0_i32 c1000_i32
  let c1_i32 : BitVec 32 := 1#32
  ⟨c0_i32, v102, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S2x4x100x200 : Shape := ⟨4, ![2, 4, 100, 200]⟩
abbrev S2x1x100x200 : Shape := ⟨4, ![2, 1, 100, 200]⟩
abbrev S20000x4 : Shape := ⟨2, ![20000, 4]⟩
abbrev S2x80x100x200 : Shape := ⟨4, ![2, 80, 100, 200]⟩
abbrev S2x20000x256 : Shape := ⟨3, ![2, 20000, 256]⟩
abbrev S2x1x80x100x200 : Shape := ⟨5, ![2, 1, 80, 100, 200]⟩
abbrev S2x100x200x1x80 : Shape := ⟨5, ![2, 100, 200, 1, 80]⟩
abbrev S2x20000x80 : Shape := ⟨3, ![2, 20000, 80]⟩
abbrev S_ : Shape := ⟨0, ![]⟩
abbrev S2x1x4x100x200 : Shape := ⟨5, ![2, 1, 4, 100, 200]⟩
abbrev S2x100x200x1x4 : Shape := ⟨5, ![2, 100, 200, 1, 4]⟩
abbrev S2x20000x4 : Shape := ⟨3, ![2, 20000, 4]⟩
abbrev S2x1x1x100x200 : Shape := ⟨5, ![2, 1, 1, 100, 200]⟩
abbrev S2x100x200x1x1 : Shape := ⟨5, ![2, 100, 200, 1, 1]⟩
abbrev S2x20000x1 : Shape := ⟨3, ![2, 20000, 1]⟩
abbrev S2x20000 : Shape := ⟨2, ![2, 20000]⟩
abbrev S2x1600000 : Shape := ⟨2, ![2, 1600000]⟩
abbrev S1600000 : Shape := ⟨1, ![1600000]⟩
abbrev S2x1000 : Shape := ⟨2, ![2, 1000]⟩
abbrev S2x1000x1 : Shape := ⟨3, ![2, 1000, 1]⟩
abbrev S2x1000x4 : Shape := ⟨3, ![2, 1000, 4]⟩
abbrev S1000 : Shape := ⟨1, ![1000]⟩
abbrev S2x1x1000 : Shape := ⟨3, ![2, 1, 1000]⟩
abbrev S2x1000x1000 : Shape := ⟨3, ![2, 1000, 1000]⟩
abbrev S1x1000 : Shape := ⟨2, ![1, 1000]⟩
abbrev S2x1 : Shape := ⟨2, ![2, 1]⟩
abbrev S2 : Shape := ⟨1, ![2]⟩
abbrev S2x100 : Shape := ⟨2, ![2, 100]⟩
abbrev S2x100x1 : Shape := ⟨3, ![2, 100, 1]⟩
abbrev S2x100x4 : Shape := ⟨3, ![2, 100, 4]⟩
abbrev S100 : Shape := ⟨1, ![100]⟩

abbrev nBuf : Space → Nat
  | .hbm => 510
  | .vmem => 0
  | .smem => 0
  | _ => 0

abbrev hbmTy0_0 (i : Nat) : BufTy := match i % 128 with
  | 0 => ⟨S2x4x100x200, .f32⟩
  | 1 => ⟨S2x1x100x200, .f32⟩
  | 2 => ⟨S20000x4, .f32⟩
  | 3 => ⟨S2x80x100x200, .f32⟩
  | 4 => ⟨S2x20000x256, .f32⟩
  | 5 => ⟨S2x1x80x100x200, .f32⟩
  | 6 => ⟨S2x100x200x1x80, .f32⟩
  | 7 => ⟨S2x20000x80, .f32⟩
  | 8 => ⟨S2x20000x80, .f32⟩
  | 9 => ⟨S2x20000x80, .f32⟩
  | 10 => ⟨S_, .f32⟩
  | 11 => ⟨S2x20000x80, .f32⟩
  | 12 => ⟨S2x20000x80, .f32⟩
  | 13 => ⟨S_, .f32⟩
  | 14 => ⟨S2x20000x80, .f32⟩
  | 15 => ⟨S2x20000x80, .f32⟩
  | 16 => ⟨S2x20000x256, .f32⟩
  | 17 => ⟨S2x20000x256, .f32⟩
  | 18 => ⟨S_, .f32⟩
  | 19 => ⟨S2x20000x256, .f32⟩
  | 20 => ⟨S2x20000x256, .f32⟩
  | 21 => ⟨S_, .f32⟩
  | 22 => ⟨S2x20000x256, .f32⟩
  | 23 => ⟨S2x20000x256, .f32⟩
  | 24 => ⟨S2x20000x80, .f32⟩
  | 25 => ⟨S2x1x4x100x200, .f32⟩
  | 26 => ⟨S2x100x200x1x4, .f32⟩
  | 27 => ⟨S2x20000x4, .f32⟩
  | 28 => ⟨S_, .f32⟩
  | 29 => ⟨S2x20000x80, .f32⟩
  | 30 => ⟨S2x20000x80, .i1⟩
  | 31 => ⟨S2x1x1x100x200, .f32⟩
  | 32 => ⟨S2x100x200x1x1, .f32⟩
  | 33 => ⟨S2x20000x1, .f32⟩
  | 34 => ⟨S2x20000, .f32⟩
  | 35 => ⟨S2x20000, .f32⟩
  | 36 => ⟨S2x20000, .f32⟩
  | 37 => ⟨S_, .f32⟩
  | 38 => ⟨S2x20000, .f32⟩
  | 39 => ⟨S2x20000, .f32⟩
  | 40 => ⟨S_, .f32⟩
  | 41 => ⟨S2x20000, .f32⟩
  | 42 => ⟨S2x20000, .f32⟩
  | 43 => ⟨S2x20000x1, .f32⟩
  | 44 => ⟨S2x20000x80, .f32⟩
  | 45 => ⟨S2x20000x80, .f32⟩
  | 46 => ⟨S2x1600000, .f32⟩
  | 47 => ⟨S2x1600000, .i1⟩
  | 48 => ⟨S_, .f32⟩
  | 49 => ⟨S_, .f32⟩
  | 50 => ⟨S1600000, .f32⟩
  | 51 => ⟨S2x1600000, .f32⟩
  | 52 => ⟨S2x1600000, .f32⟩
  | 53 => ⟨S2x1000, .f32⟩
  | 54 => ⟨S2x1000, .i32⟩
  | 55 => ⟨S_, .f32⟩
  | 56 => ⟨S2x1000, .f32⟩
  | 57 => ⟨S2x1000, .i1⟩
  | 58 => ⟨S_, .i32⟩
  | 59 => ⟨S_, .i32⟩
  | 60 => ⟨S2x1000, .i32⟩
  | 61 => ⟨S2x1000, .i32⟩
  | 62 => ⟨S2x1000, .i32⟩
  | 63 => ⟨S_, .i32⟩
  | 64 => ⟨S2x1000, .i32⟩
  | 65 => ⟨S2x1000, .i1⟩
  | 66 => ⟨S2x1000, .i32⟩
  | 67 => ⟨S2x1000, .i32⟩
  | 68 => ⟨S_, .i32⟩
  | 69 => ⟨S2x1000, .i32⟩
  | 70 => ⟨S2x1000, .i1⟩
  | 71 => ⟨S2x1000, .i1⟩
  | 72 => ⟨S_, .i32⟩
  | 73 => ⟨S2x1000, .i32⟩
  | 74 => ⟨S2x1000, .i32⟩
  | 75 => ⟨S2x1000, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S2x1000, .i32⟩
  | 83 => ⟨S2x1000, .i32⟩
  | 84 => ⟨S_, .i32⟩
  | 85 => ⟨S2x1000, .i32⟩
  | 86 => ⟨S2x1000, .i1⟩
  | 87 => ⟨S_, .i32⟩
  | 88 => ⟨S2x1000, .i32⟩
  | 89 => ⟨S2x1000, .i1⟩
  | 90 => ⟨S_, .i32⟩
  | 91 => ⟨S_, .i1⟩
  | 92 => ⟨S2x1000, .i1⟩
  | 93 => ⟨S2x1000, .i1⟩
  | 94 => ⟨S2x1000, .i1⟩
  | 95 => ⟨S2x1000, .i32⟩
  | 96 => ⟨S2x1000, .i32⟩
  | 97 => ⟨S2x1000, .i32⟩
  | 98 => ⟨S_, .i32⟩
  | 99 => ⟨S2x1000, .i32⟩
  | 100 => ⟨S2x1000, .i32⟩
  | 101 => ⟨S_, .i32⟩
  | 102 => ⟨S2x1000, .i32⟩
  | 103 => ⟨S2x1000, .i1⟩
  | 104 => ⟨S_, .i32⟩
  | 105 => ⟨S2x1000, .i32⟩
  | 106 => ⟨S2x1000, .i32⟩
  | 107 => ⟨S2x1000, .i32⟩
  | 108 => ⟨S2x1000x1, .i32⟩
  | 109 => ⟨S2x1000x4, .f32⟩
  | 110 => ⟨S_, .i32⟩
  | 111 => ⟨S2x1000, .i32⟩
  | 112 => ⟨S2x1000, .i1⟩
  | 113 => ⟨S_, .i32⟩
  | 114 => ⟨S2x1000, .i32⟩
  | 115 => ⟨S2x1000, .i32⟩
  | 116 => ⟨S2x1000, .i32⟩
  | 117 => ⟨S2x1000x1, .i32⟩
  | 118 => ⟨S2x1000x4, .f32⟩
  | 119 => ⟨S2x1000x1, .f32⟩
  | 120 => ⟨S2x1000, .f32⟩
  | 121 => ⟨S2x1000x1, .f32⟩
  | 122 => ⟨S2x1000, .f32⟩
  | 123 => ⟨S2x1000, .f32⟩
  | 124 => ⟨S2x1000x1, .f32⟩
  | 125 => ⟨S2x1000, .f32⟩
  | 126 => ⟨S2x1000x1, .f32⟩
  | 127 => ⟨S2x1000, .f32⟩
  | _ => ⟨S2x4x100x200, .f32⟩

abbrev hbmTy0_1 (i : Nat) : BufTy := match i % 128 with
  | 0 => ⟨S2x1000, .f32⟩
  | 1 => ⟨S2x1000x1, .f32⟩
  | 2 => ⟨S2x1000, .f32⟩
  | 3 => ⟨S2x1000x1, .f32⟩
  | 4 => ⟨S2x1000, .f32⟩
  | 5 => ⟨S2x1000, .f32⟩
  | 6 => ⟨S_, .f32⟩
  | 7 => ⟨S2x1000, .f32⟩
  | 8 => ⟨S2x1000, .f32⟩
  | 9 => ⟨S2x1000x1, .f32⟩
  | 10 => ⟨S2x1000, .f32⟩
  | 11 => ⟨S2x1000x1, .f32⟩
  | 12 => ⟨S2x1000, .f32⟩
  | 13 => ⟨S2x1000, .f32⟩
  | 14 => ⟨S_, .f32⟩
  | 15 => ⟨S2x1000, .f32⟩
  | 16 => ⟨S2x1000, .f32⟩
  | 17 => ⟨S2x1000x1, .f32⟩
  | 18 => ⟨S2x1000, .f32⟩
  | 19 => ⟨S2x1000x1, .f32⟩
  | 20 => ⟨S2x1000, .f32⟩
  | 21 => ⟨S2x1000x1, .f32⟩
  | 22 => ⟨S2x1000, .f32⟩
  | 23 => ⟨S2x1000x1, .f32⟩
  | 24 => ⟨S2x1000, .f32⟩
  | 25 => ⟨S_, .f32⟩
  | 26 => ⟨S_, .f32⟩
  | 27 => ⟨S_, .f32⟩
  | 28 => ⟨S2x1000, .f32⟩
  | 29 => ⟨S2x1000, .f32⟩
  | 30 => ⟨S_, .f32⟩
  | 31 => ⟨S2x1000, .f32⟩
  | 32 => ⟨S2x1000, .f32⟩
  | 33 => ⟨S_, .f32⟩
  | 34 => ⟨S_, .f32⟩
  | 35 => ⟨S_, .f32⟩
  | 36 => ⟨S2x1000, .f32⟩
  | 37 => ⟨S2x1000, .f32⟩
  | 38 => ⟨S_, .f32⟩
  | 39 => ⟨S2x1000, .f32⟩
  | 40 => ⟨S2x1000, .f32⟩
  | 41 => ⟨S2x1000, .f32⟩
  | 42 => ⟨S2x1000, .f32⟩
  | 43 => ⟨S2x1000, .f32⟩
  | 44 => ⟨S2x1000, .f32⟩
  | 45 => ⟨S2x1000, .f32⟩
  | 46 => ⟨S2x1000, .f32⟩
  | 47 => ⟨S2x1000, .f32⟩
  | 48 => ⟨S2x1000, .f32⟩
  | 49 => ⟨S_, .f32⟩
  | 50 => ⟨S2x1000, .f32⟩
  | 51 => ⟨S2x1000, .f32⟩
  | 52 => ⟨S2x1000, .f32⟩
  | 53 => ⟨S_, .f32⟩
  | 54 => ⟨S_, .f32⟩
  | 55 => ⟨S_, .f32⟩
  | 56 => ⟨S2x1000, .f32⟩
  | 57 => ⟨S2x1000, .f32⟩
  | 58 => ⟨S_, .f32⟩
  | 59 => ⟨S2x1000, .f32⟩
  | 60 => ⟨S2x1000, .f32⟩
  | 61 => ⟨S_, .f32⟩
  | 62 => ⟨S2x1000, .f32⟩
  | 63 => ⟨S2x1000, .f32⟩
  | 64 => ⟨S2x1000, .f32⟩
  | 65 => ⟨S_, .f32⟩
  | 66 => ⟨S_, .f32⟩
  | 67 => ⟨S_, .f32⟩
  | 68 => ⟨S2x1000, .f32⟩
  | 69 => ⟨S2x1000, .f32⟩
  | 70 => ⟨S_, .f32⟩
  | 71 => ⟨S2x1000, .f32⟩
  | 72 => ⟨S2x1000, .f32⟩
  | 73 => ⟨S_, .f32⟩
  | 74 => ⟨S2x1000, .f32⟩
  | 75 => ⟨S2x1000, .f32⟩
  | 76 => ⟨S2x1000, .f32⟩
  | 77 => ⟨S_, .f32⟩
  | 78 => ⟨S_, .f32⟩
  | 79 => ⟨S_, .f32⟩
  | 80 => ⟨S2x1000, .f32⟩
  | 81 => ⟨S2x1000, .f32⟩
  | 82 => ⟨S_, .f32⟩
  | 83 => ⟨S2x1000, .f32⟩
  | 84 => ⟨S2x1000, .f32⟩
  | 85 => ⟨S_, .f32⟩
  | 86 => ⟨S2x1000, .f32⟩
  | 87 => ⟨S2x1000, .f32⟩
  | 88 => ⟨S2x1000, .f32⟩
  | 89 => ⟨S_, .f32⟩
  | 90 => ⟨S_, .f32⟩
  | 91 => ⟨S_, .f32⟩
  | 92 => ⟨S2x1000, .f32⟩
  | 93 => ⟨S2x1000, .f32⟩
  | 94 => ⟨S_, .f32⟩
  | 95 => ⟨S2x1000, .f32⟩
  | 96 => ⟨S2x1000, .f32⟩
  | 97 => ⟨S2x1000x1, .f32⟩
  | 98 => ⟨S2x1000x1, .f32⟩
  | 99 => ⟨S2x1000x1, .f32⟩
  | 100 => ⟨S2x1000x1, .f32⟩
  | 101 => ⟨S2x1000x4, .f32⟩
  | 102 => ⟨S_, .f32⟩
  | 103 => ⟨S2x1000, .f32⟩
  | 104 => ⟨S2x1000, .f32⟩
  | 105 => ⟨S2x1000, .f32⟩
  | 106 => ⟨S2x1000x1, .f32⟩
  | 107 => ⟨S2x1000, .f32⟩
  | 108 => ⟨S2x1000x1, .f32⟩
  | 109 => ⟨S2x1000, .f32⟩
  | 110 => ⟨S2x1000, .f32⟩
  | 111 => ⟨S2x1000x1, .f32⟩
  | 112 => ⟨S2x1000, .f32⟩
  | 113 => ⟨S2x1000x1, .f32⟩
  | 114 => ⟨S2x1000, .f32⟩
  | 115 => ⟨S2x1000, .f32⟩
  | 116 => ⟨S_, .f32⟩
  | 117 => ⟨S2x1000, .f32⟩
  | 118 => ⟨S2x1000, .i1⟩
  | 119 => ⟨S2x1000, .i1⟩
  | 120 => ⟨S_, .f32⟩
  | 121 => ⟨S2x1000, .f32⟩
  | 122 => ⟨S2x1000, .i1⟩
  | 123 => ⟨S2x1000, .i1⟩
  | 124 => ⟨S2x1000, .f32⟩
  | 125 => ⟨S_, .f32⟩
  | 126 => ⟨S2x1000, .f32⟩
  | 127 => ⟨S2x1000, .f32⟩
  | _ => ⟨S2x4x100x200, .f32⟩

abbrev hbmTy0_2 (i : Nat) : BufTy := match i % 128 with
  | 0 => ⟨S1000, .f32⟩
  | 1 => ⟨S_, .f32⟩
  | 2 => ⟨S1000, .f32⟩
  | 3 => ⟨S1000, .f32⟩
  | 4 => ⟨S_, .f32⟩
  | 5 => ⟨S1000, .f32⟩
  | 6 => ⟨S1000, .f32⟩
  | 7 => ⟨S_, .f32⟩
  | 8 => ⟨S1000, .f32⟩
  | 9 => ⟨S1000, .f32⟩
  | 10 => ⟨S2x1000, .f32⟩
  | 11 => ⟨S2x1000, .f32⟩
  | 12 => ⟨S2x1000x1, .f32⟩
  | 13 => ⟨S2x1000x4, .f32⟩
  | 14 => ⟨S2x1000x4, .f32⟩
  | 15 => ⟨S_, .f32⟩
  | 16 => ⟨S_, .f32⟩
  | 17 => ⟨S1000, .f32⟩
  | 18 => ⟨S2x1000, .f32⟩
  | 19 => ⟨S2x1000, .f32⟩
  | 20 => ⟨S2x1000, .f32⟩
  | 21 => ⟨S1000, .i32⟩
  | 22 => ⟨S2x1000, .i32⟩
  | 23 => ⟨S2x1000, .f32⟩
  | 24 => ⟨S2x1000, .i32⟩
  | 25 => ⟨S_, .i32⟩
  | 26 => ⟨S2x1000, .i32⟩
  | 27 => ⟨S2x1000, .i1⟩
  | 28 => ⟨S_, .i32⟩
  | 29 => ⟨S2x1000, .i32⟩
  | 30 => ⟨S2x1000, .i32⟩
  | 31 => ⟨S2x1000, .i32⟩
  | 32 => ⟨S2x1000x1, .i32⟩
  | 33 => ⟨S2x1000x4, .f32⟩
  | 34 => ⟨S2x1000x1, .f32⟩
  | 35 => ⟨S2x1000, .f32⟩
  | 36 => ⟨S2x1000x1, .f32⟩
  | 37 => ⟨S2x1000x1, .f32⟩
  | 38 => ⟨S2x1000, .f32⟩
  | 39 => ⟨S2x1x1000, .f32⟩
  | 40 => ⟨S2x1000x1000, .f32⟩
  | 41 => ⟨S2x1000x1000, .f32⟩
  | 42 => ⟨S2x1000x1000, .f32⟩
  | 43 => ⟨S2x1000x1, .f32⟩
  | 44 => ⟨S2x1000, .f32⟩
  | 45 => ⟨S2x1000x1, .f32⟩
  | 46 => ⟨S2x1000x1, .f32⟩
  | 47 => ⟨S2x1000, .f32⟩
  | 48 => ⟨S2x1x1000, .f32⟩
  | 49 => ⟨S2x1000x1000, .f32⟩
  | 50 => ⟨S2x1000x1000, .f32⟩
  | 51 => ⟨S2x1000x1000, .f32⟩
  | 52 => ⟨S2x1000x1, .f32⟩
  | 53 => ⟨S2x1000, .f32⟩
  | 54 => ⟨S2x1000x1, .f32⟩
  | 55 => ⟨S2x1000x1, .f32⟩
  | 56 => ⟨S2x1000, .f32⟩
  | 57 => ⟨S2x1x1000, .f32⟩
  | 58 => ⟨S2x1000x1000, .f32⟩
  | 59 => ⟨S2x1000x1000, .f32⟩
  | 60 => ⟨S2x1000x1000, .f32⟩
  | 61 => ⟨S2x1000x1, .f32⟩
  | 62 => ⟨S2x1000, .f32⟩
  | 63 => ⟨S2x1000x1, .f32⟩
  | 64 => ⟨S2x1000x1, .f32⟩
  | 65 => ⟨S2x1000, .f32⟩
  | 66 => ⟨S2x1x1000, .f32⟩
  | 67 => ⟨S2x1000x1000, .f32⟩
  | 68 => ⟨S2x1000x1000, .f32⟩
  | 69 => ⟨S2x1000x1000, .f32⟩
  | 70 => ⟨S2x1000x1000, .f32⟩
  | 71 => ⟨S_, .f32⟩
  | 72 => ⟨S_, .f32⟩
  | 73 => ⟨S2x1000x1000, .f32⟩
  | 74 => ⟨S2x1000x1000, .f32⟩
  | 75 => ⟨S2x1000x1000, .f32⟩
  | 76 => ⟨S_, .f32⟩
  | 77 => ⟨S_, .f32⟩
  | 78 => ⟨S2x1000x1000, .f32⟩
  | 79 => ⟨S2x1000x1000, .f32⟩
  | 80 => ⟨S2x1000x1000, .f32⟩
  | 81 => ⟨S2x1000x1, .f32⟩
  | 82 => ⟨S2x1000, .f32⟩
  | 83 => ⟨S2x1000x1, .f32⟩
  | 84 => ⟨S2x1000, .f32⟩
  | 85 => ⟨S2x1000, .f32⟩
  | 86 => ⟨S_, .f32⟩
  | 87 => ⟨S_, .f32⟩
  | 88 => ⟨S2x1000, .f32⟩
  | 89 => ⟨S2x1000, .f32⟩
  | 90 => ⟨S2x1000x1, .f32⟩
  | 91 => ⟨S2x1000, .f32⟩
  | 92 => ⟨S2x1000x1, .f32⟩
  | 93 => ⟨S2x1000, .f32⟩
  | 94 => ⟨S2x1000, .f32⟩
  | 95 => ⟨S_, .f32⟩
  | 96 => ⟨S_, .f32⟩
  | 97 => ⟨S2x1000, .f32⟩
  | 98 => ⟨S2x1000, .f32⟩
  | 99 => ⟨S2x1000, .f32⟩
  | 100 => ⟨S2x1000x1, .f32⟩
  | 101 => ⟨S2x1x1000, .f32⟩
  | 102 => ⟨S2x1000x1000, .f32⟩
  | 103 => ⟨S2x1000x1000, .f32⟩
  | 104 => ⟨S2x1000x1000, .f32⟩
  | 105 => ⟨S2x1000x1000, .f32⟩
  | 106 => ⟨S_, .f32⟩
  | 107 => ⟨S2x1000x1000, .f32⟩
  | 108 => ⟨S2x1000x1000, .f32⟩
  | 109 => ⟨S2x1000x1000, .f32⟩
  | 110 => ⟨S_, .i32⟩
  | 111 => ⟨S2x1000, .i32⟩
  | 112 => ⟨S2x1000, .i1⟩
  | 113 => ⟨S_, .i32⟩
  | 114 => ⟨S2x1000, .i32⟩
  | 115 => ⟨S2x1000, .i32⟩
  | 116 => ⟨S2x1000, .i32⟩
  | 117 => ⟨S2x1000x1, .i32⟩
  | 118 => ⟨S2x1000, .f32⟩
  | 119 => ⟨S_, .i32⟩
  | 120 => ⟨S2x1000, .i32⟩
  | 121 => ⟨S2x1000, .i1⟩
  | 122 => ⟨S_, .i32⟩
  | 123 => ⟨S2x1000, .i32⟩
  | 124 => ⟨S2x1000, .i32⟩
  | 125 => ⟨S2x1000, .i32⟩
  | 126 => ⟨S2x1000x1, .i32⟩
  | 127 => ⟨S2x1000x4, .f32⟩
  | _ => ⟨S2x4x100x200, .f32⟩

abbrev hbmTy0_3 (i : Nat) : BufTy := match i % 128 with
  | 0 => ⟨S_, .i32⟩
  | 1 => ⟨S2x1000, .i32⟩
  | 2 => ⟨S2x1000, .i1⟩
  | 3 => ⟨S_, .i32⟩
  | 4 => ⟨S2x1000, .i32⟩
  | 5 => ⟨S2x1000, .i32⟩
  | 6 => ⟨S2x1000, .i32⟩
  | 7 => ⟨S2x1000x1, .i32⟩
  | 8 => ⟨S2x1000, .i32⟩
  | 9 => ⟨S_, .i32⟩
  | 10 => ⟨S2x1000, .i32⟩
  | 11 => ⟨S2x1000, .i1⟩
  | 12 => ⟨S_, .i32⟩
  | 13 => ⟨S2x1000, .i32⟩
  | 14 => ⟨S2x1000, .i32⟩
  | 15 => ⟨S2x1000, .i32⟩
  | 16 => ⟨S2x1000x1, .i32⟩
  | 17 => ⟨S2x1000, .i1⟩
  | 18 => ⟨S1000, .i32⟩
  | 19 => ⟨S_, .i1⟩
  | 20 => ⟨S2x1000, .i1⟩
  | 21 => ⟨S_, .i32⟩
  | 22 => ⟨S_, .i32⟩
  | 23 => ⟨S2x1000x1000, .f32⟩
  | 24 => ⟨S1000, .i32⟩
  | 25 => ⟨S_, .i32⟩
  | 26 => ⟨S_, .i32⟩
  | 27 => ⟨S2x1000, .i1⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S2x1x1000, .f32⟩
  | 55 => ⟨S2x1000, .f32⟩
  | 56 => ⟨S_, .f32⟩
  | 57 => ⟨S2x1000, .f32⟩
  | 58 => ⟨S2x1000, .i1⟩
  | 59 => ⟨S_, .i32⟩
  | 60 => ⟨S1000, .i32⟩
  | 61 => ⟨S1000, .i1⟩
  | 62 => ⟨S1x1000, .i1⟩
  | 63 => ⟨S2x1000, .i1⟩
  | 64 => ⟨S2x1000, .i1⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S2x1, .i1⟩
  | 80 => ⟨S2, .i1⟩
  | 81 => ⟨S2x1, .i1⟩
  | 82 => ⟨S2x1000, .i1⟩
  | 83 => ⟨S2x1000, .i1⟩
  | 84 => ⟨S2x1000, .i1⟩
  | 85 => ⟨S2x1000, .i1⟩
  | 86 => ⟨S_, .i32⟩
  | 87 => ⟨S_, .i32⟩
  | 88 => ⟨S2x1000, .i1⟩
  | 89 => ⟨S_, .f32⟩
  | 90 => ⟨S_, .f32⟩
  | 91 => ⟨S1000, .f32⟩
  | 92 => ⟨S2x1000, .f32⟩
  | 93 => ⟨S2x1000, .f32⟩
  | 94 => ⟨S2x100, .f32⟩
  | 95 => ⟨S2x100, .i32⟩
  | 96 => ⟨S_, .i32⟩
  | 97 => ⟨S2x100, .i32⟩
  | 98 => ⟨S2x100, .i1⟩
  | 99 => ⟨S_, .i32⟩
  | 100 => ⟨S2x100, .i32⟩
  | 101 => ⟨S2x100, .i32⟩
  | 102 => ⟨S2x100, .i32⟩
  | 103 => ⟨S2x100x1, .i32⟩
  | 104 => ⟨S2x100x4, .f32⟩
  | 105 => ⟨S_, .f32⟩
  | 106 => ⟨S2x100, .f32⟩
  | 107 => ⟨S2x100, .i1⟩
  | 108 => ⟨S_, .i32⟩
  | 109 => ⟨S2x100, .i32⟩
  | 110 => ⟨S2x100, .i1⟩
  | 111 => ⟨S_, .i32⟩
  | 112 => ⟨S2x100, .i32⟩
  | 113 => ⟨S2x100, .i32⟩
  | 114 => ⟨S2x100, .i32⟩
  | 115 => ⟨S2x100x1, .i32⟩
  | 116 => ⟨S2x100, .i32⟩
  | 117 => ⟨S_, .i32⟩
  | 118 => ⟨S_, .i32⟩
  | 119 => ⟨S100, .i32⟩
  | 120 => ⟨S2x100, .i32⟩
  | 121 => ⟨S2x100, .i32⟩
  | 122 => ⟨S_, .f32⟩
  | 123 => ⟨S_, .f32⟩
  | 124 => ⟨S2x100, .f32⟩
  | 125 => ⟨S2x100, .f32⟩
  | _ => ⟨S2x4x100x200, .f32⟩

abbrev hbmTy (i : Nat) : BufTy := match i / 128 with
  | 0 => hbmTy0_0 i
  | 1 => hbmTy0_1 i
  | 2 => hbmTy0_2 i
  | 3 => hbmTy0_3 i
  | _ => ⟨S2x4x100x200, .f32⟩

abbrev bufTy : (tb : Table) → Fin (tcTables nBuf tb) → BufTy
  | .hbm, ⟨i, _⟩ => hbmTy i
  | _, _ => ⟨S2x4x100x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v36 : Ref sig .tc := ⟨.hbm, 52, rfl⟩
abbrev main_values : Ref sig .tc := ⟨.hbm, 53, rfl⟩
abbrev main_indices : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_c : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_c : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_0 : Ref sig .tc := ⟨.hbm, 72, rfl⟩
abbrev main_call1_v12 : Ref sig .tc := ⟨.hbm, 73, rfl⟩
abbrev main_call1_v13 : Ref sig .tc := ⟨.hbm, 74, rfl⟩
abbrev main_v39 : Ref sig .tc := ⟨.hbm, 75, rfl⟩
abbrev main_c_8 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_c_1 : Ref sig .tc := ⟨.hbm, 84, rfl⟩
abbrev main_call2_v5 : Ref sig .tc := ⟨.hbm, 85, rfl⟩
abbrev main_call2_v6 : Ref sig .tc := ⟨.hbm, 86, rfl⟩
abbrev main_call2_c_2 : Ref sig .tc := ⟨.hbm, 87, rfl⟩
abbrev main_call2_v7 : Ref sig .tc := ⟨.hbm, 88, rfl⟩
abbrev main_call2_v8 : Ref sig .tc := ⟨.hbm, 89, rfl⟩
abbrev main_call2_c_3 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_v40 : Ref sig .tc := ⟨.hbm, 97, rfl⟩
abbrev main_c_9 : Ref sig .tc := ⟨.hbm, 98, rfl⟩
abbrev main_v41 : Ref sig .tc := ⟨.hbm, 99, rfl⟩
abbrev main_v42 : Ref sig .tc := ⟨.hbm, 100, rfl⟩
abbrev main_c_10 : Ref sig .tc := ⟨.hbm, 101, rfl⟩
abbrev main_v43 : Ref sig .tc := ⟨.hbm, 102, rfl⟩
abbrev main_v44 : Ref sig .tc := ⟨.hbm, 103, rfl⟩
abbrev main_c_11 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_c_12 : Ref sig .tc := ⟨.hbm, 110, rfl⟩
abbrev main_v50 : Ref sig .tc := ⟨.hbm, 111, rfl⟩
abbrev main_v51 : Ref sig .tc := ⟨.hbm, 112, rfl⟩
abbrev main_c_13 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_cst_14 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_15 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_cst_16 : Ref sig .tc := ⟨.hbm, 153, rfl⟩
abbrev main_cst_17 : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_v89 : Ref sig .tc := ⟨.hbm, 160, rfl⟩
abbrev main_cst_18 : Ref sig .tc := ⟨.hbm, 161, rfl⟩
abbrev main_cst_19 : Ref sig .tc := ⟨.hbm, 162, rfl⟩
abbrev main_call4_v0 : Ref sig .tc := ⟨.hbm, 163, rfl⟩
abbrev main_call4_v1 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_cst_20 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_cst_21 : Ref sig .tc := ⟨.hbm, 181, rfl⟩
abbrev main_cst_22 : Ref sig .tc := ⟨.hbm, 182, rfl⟩
abbrev main_call5_v0 : Ref sig .tc := ⟨.hbm, 183, rfl⟩
abbrev main_call5_v1 : Ref sig .tc := ⟨.hbm, 184, rfl⟩
abbrev main_call5_v2 : Ref sig .tc := ⟨.hbm, 185, rfl⟩
abbrev main_call5_v3 : Ref sig .tc := ⟨.hbm, 186, rfl⟩
abbrev main_call5_v4 : Ref sig .tc := ⟨.hbm, 187, rfl⟩
abbrev main_v102 : Ref sig .tc := ⟨.hbm, 188, rfl⟩
abbrev main_cst_23 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_cst_24 : Ref sig .tc := ⟨.hbm, 193, rfl⟩
abbrev main_cst_25 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_call6_v3 : Ref sig .tc := ⟨.hbm, 198, rfl⟩
abbrev main_call6_v4 : Ref sig .tc := ⟨.hbm, 199, rfl⟩
abbrev main_v106 : Ref sig .tc := ⟨.hbm, 200, rfl⟩
abbrev main_cst_26 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_cst_27 : Ref sig .tc := ⟨.hbm, 205, rfl⟩
abbrev main_cst_28 : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_v110 : Ref sig .tc := ⟨.hbm, 212, rfl⟩
abbrev main_cst_29 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_cst_30 : Ref sig .tc := ⟨.hbm, 217, rfl⟩
abbrev main_cst_31 : Ref sig .tc := ⟨.hbm, 218, rfl⟩
abbrev main_call8_v0 : Ref sig .tc := ⟨.hbm, 219, rfl⟩
abbrev main_call8_v1 : Ref sig .tc := ⟨.hbm, 220, rfl⟩
abbrev main_call8_v2 : Ref sig .tc := ⟨.hbm, 221, rfl⟩
abbrev main_call8_v3 : Ref sig .tc := ⟨.hbm, 222, rfl⟩
abbrev main_call8_v4 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_cst_32 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_cst_33 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_cst_34 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_cst_35 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_cst_36 : Ref sig .tc := ⟨.hbm, 257, rfl⟩
abbrev main_v143 : Ref sig .tc := ⟨.hbm, 258, rfl⟩
abbrev main_v144 : Ref sig .tc := ⟨.hbm, 259, rfl⟩
abbrev main_cst_37 : Ref sig .tc := ⟨.hbm, 260, rfl⟩
abbrev main_v145 : Ref sig .tc := ⟨.hbm, 261, rfl⟩
abbrev main_v146 : Ref sig .tc := ⟨.hbm, 262, rfl⟩
abbrev main_cst_38 : Ref sig .tc := ⟨.hbm, 263, rfl⟩
abbrev main_v147 : Ref sig .tc := ⟨.hbm, 264, rfl⟩
abbrev main_v148 : Ref sig .tc := ⟨.hbm, 265, rfl⟩
abbrev main_call9_v0 : Ref sig .tc := ⟨.hbm, 266, rfl⟩
abbrev main_v149 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_cst_39 : Ref sig .tc := ⟨.hbm, 271, rfl⟩
abbrev main_call10_v0 : Ref sig .tc := ⟨.hbm, 272, rfl⟩
abbrev main_call10_v1 : Ref sig .tc := ⟨.hbm, 273, rfl⟩
abbrev main_call10_v2 : Ref sig .tc := ⟨.hbm, 274, rfl⟩
abbrev main_v153 : Ref sig .tc := ⟨.hbm, 275, rfl⟩
abbrev main_v154 : Ref sig .tc := ⟨.hbm, 276, rfl⟩
abbrev main_call11_v0 : Ref sig .tc := ⟨.hbm, 277, rfl⟩
abbrev main_call11_v1 : Ref sig .tc := ⟨.hbm, 278, rfl⟩
abbrev main_call11_v2_0 : Ref sig .tc := ⟨.hbm, 279, rfl⟩
abbrev main_v155 : Ref sig .tc := ⟨.hbm, 280, rfl⟩
abbrev main_c_40 : Ref sig .tc := ⟨.hbm, 281, rfl⟩
abbrev main_v156 : Ref sig .tc := ⟨.hbm, 282, rfl⟩
abbrev main_v157 : Ref sig .tc := ⟨.hbm, 283, rfl⟩
abbrev main_c_41 : Ref sig .tc := ⟨.hbm, 284, rfl⟩
abbrev main_v158 : Ref sig .tc := ⟨.hbm, 285, rfl⟩
abbrev main_v159 : Ref sig .tc := ⟨.hbm, 286, rfl⟩
abbrev main_v160 : Ref sig .tc := ⟨.hbm, 287, rfl⟩
abbrev main_v161 : Ref sig .tc := ⟨.hbm, 288, rfl⟩
abbrev main_v162 : Ref sig .tc := ⟨.hbm, 289, rfl⟩
abbrev main_v163 : Ref sig .tc := ⟨.hbm, 290, rfl⟩
abbrev main_v164 : Ref sig .tc := ⟨.hbm, 291, rfl⟩
abbrev main_v165 : Ref sig .tc := ⟨.hbm, 292, rfl⟩
abbrev main_v166 : Ref sig .tc := ⟨.hbm, 293, rfl⟩
abbrev main_v167 : Ref sig .tc := ⟨.hbm, 294, rfl⟩
abbrev main_v168 : Ref sig .tc := ⟨.hbm, 295, rfl⟩
abbrev main_v169 : Ref sig .tc := ⟨.hbm, 296, rfl⟩
abbrev main_v170 : Ref sig .tc := ⟨.hbm, 297, rfl⟩
abbrev main_v171 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_v179 : Ref sig .tc := ⟨.hbm, 306, rfl⟩
abbrev main_v180 : Ref sig .tc := ⟨.hbm, 307, rfl⟩
abbrev main_v181 : Ref sig .tc := ⟨.hbm, 308, rfl⟩
abbrev main_v182 : Ref sig .tc := ⟨.hbm, 309, rfl⟩
abbrev main_v183 : Ref sig .tc := ⟨.hbm, 310, rfl⟩
abbrev main_v184 : Ref sig .tc := ⟨.hbm, 311, rfl⟩
abbrev main_v185 : Ref sig .tc := ⟨.hbm, 312, rfl⟩
abbrev main_v186 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_42 : Ref sig .tc := ⟨.hbm, 327, rfl⟩
abbrev main_call12_v0 : Ref sig .tc := ⟨.hbm, 328, rfl⟩
abbrev main_call12_v1 : Ref sig .tc := ⟨.hbm, 329, rfl⟩
abbrev main_v200 : Ref sig .tc := ⟨.hbm, 330, rfl⟩
abbrev main_v201 : Ref sig .tc := ⟨.hbm, 331, rfl⟩
abbrev main_cst_43 : Ref sig .tc := ⟨.hbm, 332, rfl⟩
abbrev main_call13_v0 : Ref sig .tc := ⟨.hbm, 333, rfl⟩
abbrev main_call13_v1 : Ref sig .tc := ⟨.hbm, 334, rfl⟩
abbrev main_v202 : Ref sig .tc := ⟨.hbm, 335, rfl⟩
abbrev main_v203 : Ref sig .tc := ⟨.hbm, 336, rfl⟩
abbrev main_v204 : Ref sig .tc := ⟨.hbm, 337, rfl⟩
abbrev main_v205 : Ref sig .tc := ⟨.hbm, 338, rfl⟩
abbrev main_v206 : Ref sig .tc := ⟨.hbm, 339, rfl⟩
abbrev main_v207 : Ref sig .tc := ⟨.hbm, 340, rfl⟩
abbrev main_v208 : Ref sig .tc := ⟨.hbm, 341, rfl⟩
abbrev main_cst_44 : Ref sig .tc := ⟨.hbm, 342, rfl⟩
abbrev main_call14_v0 : Ref sig .tc := ⟨.hbm, 343, rfl⟩
abbrev main_call14_v1 : Ref sig .tc := ⟨.hbm, 344, rfl⟩
abbrev main_v209 : Ref sig .tc := ⟨.hbm, 345, rfl⟩
abbrev main_v210 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_v214 : Ref sig .tc := ⟨.hbm, 350, rfl⟩
abbrev main_cst_45 : Ref sig .tc := ⟨.hbm, 351, rfl⟩
abbrev main_call15_v0 : Ref sig .tc := ⟨.hbm, 352, rfl⟩
abbrev main_call15_v1 : Ref sig .tc := ⟨.hbm, 353, rfl⟩
abbrev main_v215 : Ref sig .tc := ⟨.hbm, 354, rfl⟩
abbrev main_v216 : Ref sig .tc := ⟨.hbm, 355, rfl⟩
abbrev main_v217 : Ref sig .tc := ⟨.hbm, 356, rfl⟩
abbrev main_v218 : Ref sig .tc := ⟨.hbm, 357, rfl⟩
abbrev main_v219 : Ref sig .tc := ⟨.hbm, 358, rfl⟩
abbrev main_v220 : Ref sig .tc := ⟨.hbm, 359, rfl⟩
abbrev main_v221 : Ref sig .tc := ⟨.hbm, 360, rfl⟩
abbrev main_v222 : Ref sig .tc := ⟨.hbm, 361, rfl⟩
abbrev main_cst_46 : Ref sig .tc := ⟨.hbm, 362, rfl⟩
abbrev main_v223 : Ref sig .tc := ⟨.hbm, 363, rfl⟩
abbrev main_v224 : Ref sig .tc := ⟨.hbm, 364, rfl⟩
abbrev main_v225 : Ref sig .tc := ⟨.hbm, 365, rfl⟩
abbrev main_c_47 : Ref sig .tc := ⟨.hbm, 366, rfl⟩
abbrev main_v226 : Ref sig .tc := ⟨.hbm, 367, rfl⟩
abbrev main_v227 : Ref sig .tc := ⟨.hbm, 368, rfl⟩
abbrev main_c_48 : Ref sig .tc := ⟨.hbm, 369, rfl⟩
abbrev main_v228 : Ref sig .tc := ⟨.hbm, 370, rfl⟩
abbrev main_v229 : Ref sig .tc := ⟨.hbm, 371, rfl⟩
abbrev main_v230 : Ref sig .tc := ⟨.hbm, 372, rfl⟩
abbrev main_v231 : Ref sig .tc := ⟨.hbm, 373, rfl⟩
abbrev main_v232 : Ref sig .tc := ⟨.hbm, 374, rfl⟩
abbrev main_c_49 : Ref sig .tc := ⟨.hbm, 375, rfl⟩
abbrev main_v233 : Ref sig .tc := ⟨.hbm, 376, rfl⟩
abbrev main_v234 : Ref sig .tc := ⟨.hbm, 377, rfl⟩
abbrev main_c_50 : Ref sig .tc := ⟨.hbm, 378, rfl⟩
abbrev main_v235 : Ref sig .tc := ⟨.hbm, 379, rfl⟩
abbrev main_v236 : Ref sig .tc := ⟨.hbm, 380, rfl⟩
abbrev main_v237 : Ref sig .tc := ⟨.hbm, 381, rfl⟩
abbrev main_v238 : Ref sig .tc := ⟨.hbm, 382, rfl⟩
abbrev main_v239 : Ref sig .tc := ⟨.hbm, 383, rfl⟩
abbrev main_c_51 : Ref sig .tc := ⟨.hbm, 384, rfl⟩
abbrev main_v240 : Ref sig .tc := ⟨.hbm, 385, rfl⟩
abbrev main_v241 : Ref sig .tc := ⟨.hbm, 386, rfl⟩
abbrev main_c_52 : Ref sig .tc := ⟨.hbm, 387, rfl⟩
abbrev main_v242 : Ref sig .tc := ⟨.hbm, 388, rfl⟩
abbrev main_v243 : Ref sig .tc := ⟨.hbm, 389, rfl⟩
abbrev main_v244 : Ref sig .tc := ⟨.hbm, 390, rfl⟩
abbrev main_v245 : Ref sig .tc := ⟨.hbm, 391, rfl⟩
abbrev main_v246 : Ref sig .tc := ⟨.hbm, 392, rfl⟩
abbrev main_c_53 : Ref sig .tc := ⟨.hbm, 393, rfl⟩
abbrev main_v247 : Ref sig .tc := ⟨.hbm, 394, rfl⟩
abbrev main_v248 : Ref sig .tc := ⟨.hbm, 395, rfl⟩
abbrev main_c_54 : Ref sig .tc := ⟨.hbm, 396, rfl⟩
abbrev main_v249 : Ref sig .tc := ⟨.hbm, 397, rfl⟩
abbrev main_v250 : Ref sig .tc := ⟨.hbm, 398, rfl⟩
abbrev main_v251 : Ref sig .tc := ⟨.hbm, 399, rfl⟩
abbrev main_v252 : Ref sig .tc := ⟨.hbm, 400, rfl⟩
abbrev main_v253 : Ref sig .tc := ⟨.hbm, 401, rfl⟩
abbrev main_v254 : Ref sig .tc := ⟨.hbm, 402, rfl⟩
abbrev main_c_55 : Ref sig .tc := ⟨.hbm, 403, rfl⟩
abbrev main_v255 : Ref sig .tc := ⟨.hbm, 404, rfl⟩
abbrev main_c_56 : Ref sig .tc := ⟨.hbm, 405, rfl⟩
abbrev main_c_57 : Ref sig .tc := ⟨.hbm, 406, rfl⟩
abbrev main_v256_0 : Ref sig .tc := ⟨.hbm, 407, rfl⟩
abbrev main_v256_1 : Ref sig .tc := ⟨.hbm, 408, rfl⟩
abbrev main_v256_2 : Ref sig .tc := ⟨.hbm, 409, rfl⟩
abbrev main_v256_3 : Ref sig .tc := ⟨.hbm, 410, rfl⟩
abbrev main_v256_4 : Ref sig .tc := ⟨.hbm, 411, rfl⟩
abbrev main_while0c_c_72 : Ref sig .tc := ⟨.hbm, 412, rfl⟩
abbrev main_while0c_v277 : Ref sig .tc := ⟨.hbm, 413, rfl⟩
abbrev main_while0b_c_72 : Ref sig .tc := ⟨.hbm, 414, rfl⟩
abbrev main_while0b_v277 : Ref sig .tc := ⟨.hbm, 415, rfl⟩
abbrev main_while0b_v278 : Ref sig .tc := ⟨.hbm, 416, rfl⟩
abbrev main_while0b_c_73 : Ref sig .tc := ⟨.hbm, 417, rfl⟩
abbrev main_while0b_c_74 : Ref sig .tc := ⟨.hbm, 418, rfl⟩
abbrev main_while0b_v279 : Ref sig .tc := ⟨.hbm, 419, rfl⟩
abbrev main_while0b_c_75 : Ref sig .tc := ⟨.hbm, 420, rfl⟩
abbrev main_while0b_c_76 : Ref sig .tc := ⟨.hbm, 421, rfl⟩
abbrev main_while0b_v280 : Ref sig .tc := ⟨.hbm, 422, rfl⟩
abbrev main_while0b_c_77 : Ref sig .tc := ⟨.hbm, 423, rfl⟩
abbrev main_while0b_v281 : Ref sig .tc := ⟨.hbm, 424, rfl⟩
abbrev main_while0b_c_78 : Ref sig .tc := ⟨.hbm, 425, rfl⟩
abbrev main_while0b_v282 : Ref sig .tc := ⟨.hbm, 426, rfl⟩
abbrev main_while0b_c_79 : Ref sig .tc := ⟨.hbm, 427, rfl⟩
abbrev main_while0b_v283 : Ref sig .tc := ⟨.hbm, 428, rfl⟩
abbrev main_while0b_v284 : Ref sig .tc := ⟨.hbm, 429, rfl⟩
abbrev main_while0b_c_80 : Ref sig .tc := ⟨.hbm, 430, rfl⟩
abbrev main_while0b_c_81 : Ref sig .tc := ⟨.hbm, 431, rfl⟩
abbrev main_while0b_v285 : Ref sig .tc := ⟨.hbm, 432, rfl⟩
abbrev main_while0b_c_82 : Ref sig .tc := ⟨.hbm, 433, rfl⟩
abbrev main_while0b_c_83 : Ref sig .tc := ⟨.hbm, 434, rfl⟩
abbrev main_while0b_v286 : Ref sig .tc := ⟨.hbm, 435, rfl⟩
abbrev main_while0b_c_84 : Ref sig .tc := ⟨.hbm, 436, rfl⟩
abbrev main_while0b_v287 : Ref sig .tc := ⟨.hbm, 437, rfl⟩
abbrev main_while0b_v288 : Ref sig .tc := ⟨.hbm, 438, rfl⟩
abbrev main_while0b_v289 : Ref sig .tc := ⟨.hbm, 439, rfl⟩
abbrev main_while0b_cst_85 : Ref sig .tc := ⟨.hbm, 440, rfl⟩
abbrev main_while0b_v290 : Ref sig .tc := ⟨.hbm, 441, rfl⟩
abbrev main_while0b_v291 : Ref sig .tc := ⟨.hbm, 442, rfl⟩
abbrev main_while0b_v292 : Ref sig .tc := ⟨.hbm, 443, rfl⟩
abbrev main_while0b_v293 : Ref sig .tc := ⟨.hbm, 444, rfl⟩
abbrev main_while0b_v294 : Ref sig .tc := ⟨.hbm, 445, rfl⟩
abbrev main_while0b_v295 : Ref sig .tc := ⟨.hbm, 446, rfl⟩
abbrev main_while0b_v296 : Ref sig .tc := ⟨.hbm, 447, rfl⟩
abbrev main_while0b_v297 : Ref sig .tc := ⟨.hbm, 448, rfl⟩
abbrev main_while0b_v298 : Ref sig .tc := ⟨.hbm, 449, rfl⟩
abbrev main_while0b_c_86 : Ref sig .tc := ⟨.hbm, 450, rfl⟩
abbrev main_while0b_c_87 : Ref sig .tc := ⟨.hbm, 451, rfl⟩
abbrev main_while0b_v299 : Ref sig .tc := ⟨.hbm, 452, rfl⟩
abbrev main_while0b_c_88 : Ref sig .tc := ⟨.hbm, 453, rfl⟩
abbrev main_while0b_c_89 : Ref sig .tc := ⟨.hbm, 454, rfl⟩
abbrev main_while0b_v300 : Ref sig .tc := ⟨.hbm, 455, rfl⟩
abbrev main_while0b_c_90 : Ref sig .tc := ⟨.hbm, 456, rfl⟩
abbrev main_while0b_v301 : Ref sig .tc := ⟨.hbm, 457, rfl⟩
abbrev main_while0b_c_91 : Ref sig .tc := ⟨.hbm, 458, rfl⟩
abbrev main_while0b_v302 : Ref sig .tc := ⟨.hbm, 459, rfl⟩
abbrev main_while0b_c_92 : Ref sig .tc := ⟨.hbm, 460, rfl⟩
abbrev main_while0b_v303 : Ref sig .tc := ⟨.hbm, 461, rfl⟩
abbrev main_while0b_v304 : Ref sig .tc := ⟨.hbm, 462, rfl⟩
abbrev main_while0b_v305 : Ref sig .tc := ⟨.hbm, 463, rfl⟩
abbrev main_while0b_v306 : Ref sig .tc := ⟨.hbm, 464, rfl⟩
abbrev main_while0b_v307 : Ref sig .tc := ⟨.hbm, 465, rfl⟩
abbrev main_while0b_v308 : Ref sig .tc := ⟨.hbm, 466, rfl⟩
abbrev main_while0b_v309 : Ref sig .tc := ⟨.hbm, 467, rfl⟩
abbrev main_while0b_v310 : Ref sig .tc := ⟨.hbm, 468, rfl⟩
abbrev main_while0b_v311 : Ref sig .tc := ⟨.hbm, 469, rfl⟩
abbrev main_while0b_c_93 : Ref sig .tc := ⟨.hbm, 470, rfl⟩
abbrev main_while0b_v312 : Ref sig .tc := ⟨.hbm, 471, rfl⟩
abbrev main_v257 : Ref sig .tc := ⟨.hbm, 472, rfl⟩
abbrev main_cst_58 : Ref sig .tc := ⟨.hbm, 473, rfl⟩
abbrev main_call16_v0 : Ref sig .tc := ⟨.hbm, 474, rfl⟩
abbrev main_call16_v1 : Ref sig .tc := ⟨.hbm, 475, rfl⟩
abbrev main_call16_v2 : Ref sig .tc := ⟨.hbm, 476, rfl⟩
abbrev main_v258 : Ref sig .tc := ⟨.hbm, 477, rfl⟩
abbrev main_values_59 : Ref sig .tc := ⟨.hbm, 478, rfl⟩
abbrev main_indices_60 : Ref sig .tc := ⟨.hbm, 479, rfl⟩
abbrev main_c_61 : Ref sig .tc := ⟨.hbm, 480, rfl⟩
abbrev main_v259 : Ref sig .tc := ⟨.hbm, 481, rfl⟩
abbrev main_v260 : Ref sig .tc := ⟨.hbm, 482, rfl⟩
abbrev main_c_62 : Ref sig .tc := ⟨.hbm, 483, rfl⟩
abbrev main_v261 : Ref sig .tc := ⟨.hbm, 484, rfl⟩
abbrev main_v262 : Ref sig .tc := ⟨.hbm, 485, rfl⟩
abbrev main_v263 : Ref sig .tc := ⟨.hbm, 486, rfl⟩
abbrev main_v264 : Ref sig .tc := ⟨.hbm, 487, rfl⟩
abbrev main_v265 : Ref sig .tc := ⟨.hbm, 488, rfl⟩
abbrev main_cst_63 : Ref sig .tc := ⟨.hbm, 489, rfl⟩
abbrev main_v266 : Ref sig .tc := ⟨.hbm, 490, rfl⟩
abbrev main_v267 : Ref sig .tc := ⟨.hbm, 491, rfl⟩
abbrev main_c_64 : Ref sig .tc := ⟨.hbm, 492, rfl⟩
abbrev main_v268 : Ref sig .tc := ⟨.hbm, 493, rfl⟩
abbrev main_v269 : Ref sig .tc := ⟨.hbm, 494, rfl⟩
abbrev main_c_65 : Ref sig .tc := ⟨.hbm, 495, rfl⟩
abbrev main_v270 : Ref sig .tc := ⟨.hbm, 496, rfl⟩
abbrev main_v271 : Ref sig .tc := ⟨.hbm, 497, rfl⟩
abbrev main_v272 : Ref sig .tc := ⟨.hbm, 498, rfl⟩
abbrev main_v273 : Ref sig .tc := ⟨.hbm, 499, rfl⟩
abbrev main_v274 : Ref sig .tc := ⟨.hbm, 500, rfl⟩
abbrev main_c_66 : Ref sig .tc := ⟨.hbm, 501, rfl⟩
abbrev main_call17_v0 : Ref sig .tc := ⟨.hbm, 502, rfl⟩
abbrev main_call17_v1 : Ref sig .tc := ⟨.hbm, 503, rfl⟩
abbrev main_call17_v2 : Ref sig .tc := ⟨.hbm, 504, rfl⟩
abbrev main_v275 : Ref sig .tc := ⟨.hbm, 505, rfl⟩
abbrev main_cst_67 : Ref sig .tc := ⟨.hbm, 506, rfl⟩
abbrev main_call18_v0 : Ref sig .tc := ⟨.hbm, 507, rfl⟩
abbrev main_call18_v1 : Ref sig .tc := ⟨.hbm, 508, rfl⟩
abbrev main_v276 : Ref sig .tc := ⟨.hbm, 509, rfl⟩

abbrev nD : Nat := 1
abbrev τ : Topo := Topo.v7x

variable {F : FTy → Type} [FloatOps F]

abbrev main_while0_count : Scf.Loop 32 := ⟨0#32, 1000#32, 1#32⟩
-- ==== Proof.KernelBody.lean ====
/- What one block of each of the kernel's two launches computes, for any float values: each window's block at a grid point,
   what the body leaves in each output window's buffer, and the body's triple at the pipeline's own obligation. The second
   launch's loop reads and writes no buffer, so its value is the fold of one trip's pure function over the thousand trips. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # REGION 0 of @main: custom_call 0, `cc0__score_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S2000x1 := Rect.unit (s := S2000x1) ![0, 0] S2000x1.size inb_S2000x1_S2000x1_0_0
abbrev r0_2 : Rect S2000x80 := Rect.unit (s := S2000x80) ![0, 0] S2000x80.size inb_S2000x80_S2000x80_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S2000x128 .f32) (x1 : Vec F S2000x1 .f32) : Vec F S2000x80 .f32 :=
  View.canon [⟨r0_2, k0_pay1 (View.ld x0 r0_0) (View.ld x1 r0_1)⟩]

/-- Its stores tile the buffer (checked by evaluation), so they cover it. -/
theorem cover0_2 (p0 : Vec F S2000x80 .f32) (y : S2000x80.Idx) :
    ∃ pc ∈ ([⟨r0_2, p0⟩] : List (View.Piece (Elt F) S2000x80 .f32)), y ∈ pc.1.set :=
  View.cover_of_tiled [⟨r0_2, p0⟩] S2000x80.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S2000x128 .f32) (harg1 : arg1.IsWhole) (arg2 : Memref sig .tc .vmem S2000x1 .f32) (harg2 : arg2.IsWhole) (arg3 : Memref sig .tc .vmem S2000x80 .f32) (harg3 : arg3.IsWhole)
    (x0 : Vec F S2000x128 .f32) (x1 : Vec F S2000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__score_kernel i arg1 harg1 arg2 harg2 arg3 harg3) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # The second launch: box decoding and suppression, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x4x1024 := Rect.unit (s := S1x4x1024) ![0, 0, 0] S1x4x1024.size inb_S1x4x1024_S1x4x1024_0_0_0
abbrev r1_1 : Rect S1x4x1024 := Rect.unit (s := S1x4x1024) ![0, 0, 0] S1x1x1024.size inb_S1x4x1024_S1x1x1024_0_0_0
abbrev r1_2 : Rect S1x4x1024 := Rect.unit (s := S1x4x1024) ![0, 1, 0] S1x1x1024.size inb_S1x4x1024_S1x1x1024_0_1_0
abbrev r1_3 : Rect S1x4x1024 := Rect.unit (s := S1x4x1024) ![0, 2, 0] S1x1x1024.size inb_S1x4x1024_S1x1x1024_0_2_0
abbrev r1_4 : Rect S1x4x1024 := Rect.unit (s := S1x4x1024) ![0, 3, 0] S1x1x1024.size inb_S1x4x1024_S1x1x1024_0_3_0
abbrev r1_5 : Rect S1x1x1024 := Rect.unit (s := S1x1x1024) ![0, 0, 0] S1x1x1024.size inb_S1x1x1024_S1x1x1024_0_0_0

/-! ## The decoded boxes, and one trip of the suppression loop -/

/-- The decoded boxes' four clipped sides, from the anchors' block and the deltas' block. -/
def bx1 (x0 x1 : Vec F S1x4x1024 .f32) : FVec F S1x1024 .f32 := k1_pay30 (View.ld x0 r1_0) (View.ld x1 r1_0)
def by1 (x0 x1 : Vec F S1x4x1024 .f32) : FVec F S1x1024 .f32 :=
  k1_pay31 (k1_pay27 (View.ld x0 r1_0) (View.ld x1 r1_0)) (k1_pay29 (View.ld x0 r1_0) (View.ld x1 r1_0)) (Scalar.ofBits .f32 0x3F000000#32)
def bx2 (x0 x1 : Vec F S1x4x1024 .f32) : FVec F S1x1024 .f32 :=
  k1_pay32 (k1_pay26 (View.ld x0 r1_0) (View.ld x1 r1_0)) (k1_pay28 (View.ld x0 r1_0) (View.ld x1 r1_0))
def by2 (x0 x1 : Vec F S1x4x1024 .f32) : FVec F S1x1024 .f32 :=
  k1_pay33 (k1_pay27 (View.ld x0 r1_0) (View.ld x1 r1_0)) (k1_pay29 (View.ld x0 r1_0) (View.ld x1 r1_0))

/-- The lanes' numbers. -/
def lanes : IVec S1x1024 32 := iota .tc S1x1024 32 [1] iota_S1x1024_d1_w32

/-- One trip of the loop on the keep mask, from the four clipped sides, the scores' block and the labels' block. -/
def trip (a b a' b' : FVec F S1x1024 .f32) (s l : Vec F S1x1x1024 .f32) (k : Fin k1_t1_loop.trips) (acc : FVec F S1x1024 .f32) : FVec F S1x1024 .f32 :=
  k1_pay9 a b a' b' s l acc (Scf.iv 0#32 1#32 k)
    (k1_pay12 (k1_pay7 a b a' b') lanes 0#32 1#32 k) (k1_pay13 (k1_pay1 l) lanes 0#32 1#32 k)
    (k1_pay14 (k1_pay5 a b a' b' s) lanes 0#32 1#32 k acc) (k1_pay15 b lanes 0#32 1#32 k)
    (k1_pay16 b' lanes 0#32 1#32 k) (k1_pay17 a a' lanes 0#32 1#32 k)

/-- The loop's region is that function: it has no effect. -/
theorem body_eq_trip (i : grid1.Coords) (arg1 : Memref sig .tc .vmem S1x4x1024 .f32) (harg1 : arg1.IsWhole) (arg2 : Memref sig .tc .vmem S1x4x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x4x1024 .f32) (harg5 : arg5.IsWhole) (arg6 : Memref sig .tc .vmem S1x1x1024 .f32) (harg6 : arg6.IsWhole) (arg7 : Memref sig .tc .vmem S1x1x1024 .f32) (harg7 : arg7.IsWhole)
    (a b a' b' : FVec F S1x1024 .f32) (s l : Vec F S1x1x1024 .f32) :
    k1_t1_body (F := F) i arg1 harg1 arg2 harg2 arg3 harg3 arg4 harg4 arg5 harg5 arg6 harg6 arg7 harg7 a b a' b' s l
        (iota .tc S1x1024 32 [1] iota_S1x1024_d1_w32)
      = fun k acc => .ret (trip a b a' b' s l k acc) := by
  funext k acc
  unfold k1_t1_body
  rw [k1_part1_eq_skeleton]
  rfl

/-- The keep mask the loop leaves. -/
def kept (x0 x1 : Vec F S1x4x1024 .f32) (x2 x3 : Vec F S1x1x1024 .f32) : FVec F S1x1024 .f32 :=
  Scf.fold (trip (bx1 x0 x1) (by1 x0 x1) (bx2 x0 x1) (by2 x0 x1) (View.ld x2 r1_5) (View.ld x3 r1_5)) k1_pay8

/-! ## What the body leaves in each output window's buffer -/

/-- The boxes' window: its four stores as pieces, last first. -/
def out1_4 (x0 x1 : Vec F S1x4x1024 .f32) : Vec F S1x4x1024 .f32 :=
  View.canon [⟨r1_4, k1_pay37 (k1_pay27 (View.ld x0 r1_0) (View.ld x1 r1_0)) (k1_pay29 (View.ld x0 r1_0) (View.ld x1 r1_0))⟩,
    ⟨r1_3, k1_pay36 (k1_pay26 (View.ld x0 r1_0) (View.ld x1 r1_0)) (k1_pay28 (View.ld x0 r1_0) (View.ld x1 r1_0))⟩,
    ⟨r1_2, k1_pay35 (k1_pay27 (View.ld x0 r1_0) (View.ld x1 r1_0)) (k1_pay29 (View.ld x0 r1_0) (View.ld x1 r1_0)) (Scalar.ofBits .f32 0x3F000000#32)⟩,
    ⟨r1_1, k1_pay34 (bx1 x0 x1)⟩]

/-- Its stores tile the buffer (checked by evaluation), so they cover it. -/
theorem cover1_4 (p0 p1 p2 p3 : Vec F S1x1x1024 .f32) (y : S1x4x1024.Idx) :
    ∃ pc ∈ ([⟨r1_4, p0⟩, ⟨r1_3, p1⟩, ⟨r1_2, p2⟩, ⟨r1_1, p3⟩] : List (View.Piece (Elt F) S1x4x1024 .f32)), y ∈ pc.1.set :=
  View.cover_of_tiled [⟨r1_4, p0⟩, ⟨r1_3, p1⟩, ⟨r1_2, p2⟩, ⟨r1_1, p3⟩] S1x1x1024.size (by rfl) y

/-- The validity window. -/
def out1_5 (x0 x1 : Vec F S1x4x1024 .f32) (x2 : Vec F S1x1x1024 .f32) : Vec F S1x1x1024 .f32 :=
  View.canon [⟨r1_5, k1_pay6 (bx1 x0 x1) (by1 x0 x1) (bx2 x0 x1) (by2 x0 x1) (View.ld x2 r1_5)⟩]

/-- The keep window. -/
def out1_6 (x0 x1 : Vec F S1x4x1024 .f32) (x2 x3 : Vec F S1x1x1024 .f32) : Vec F S1x1x1024 .f32 :=
  View.canon [⟨r1_5, k1_pay10 (kept x0 x1 x2 x3)⟩]

/-- A store of the whole row covers it. -/
theorem cover1_5 (p0 : Vec F S1x1x1024 .f32) (y : S1x1x1024.Idx) :
    ∃ pc ∈ ([⟨r1_5, p0⟩] : List (View.Piece (Elt F) S1x1x1024 .f32)), y ∈ pc.1.set :=
  View.cover_of_tiled [⟨r1_5, p0⟩] S1x1x1024.size (by rfl) y

/-! ## The body's triple -/

set_option maxHeartbeats 4000000 in
/-- The body on whole staging buffers, the inputs' at known contents and the outputs' at anything, runs to the continuation
    holding the inputs' as they were and each output's at what `out1_4`, `out1_5` and `out1_6` say. -/
theorem sound_kernel1 (c : Dev nD) (E : Set ℕ) (i : grid1.Coords) (arg1 : Memref sig .tc .vmem S1x4x1024 .f32) (harg1 : arg1.IsWhole) (arg2 : Memref sig .tc .vmem S1x4x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x4x1024 .f32) (harg5 : arg5.IsWhole) (arg6 : Memref sig .tc .vmem S1x1x1024 .f32) (harg6 : arg6.IsWhole) (arg7 : Memref sig .tc .vmem S1x1x1024 .f32) (harg7 : arg7.IsWhole)
    (x0 x1 : Vec F S1x4x1024 .f32) (x2 x3 : Vec F S1x1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1) ∗ owns (c : Thread nD τ) arg6 fullShare (out1_5 x0 x1 x2) ∗ owns (c : Thread nD τ) arg7 fullShare (out1_6 x0 x1 x2 x3)) -∗ K ⟨⟩))
      ⊢ wp frame (wpE (defs₀ (F := F)) Variants.none c none) E (cc1__nms_kernel i arg1 harg1 arg2 harg2 arg3 harg3 arg4 harg4 arg5 harg5 arg6 harg6 arg7 harg7) K := by
  simp only [cc1__nms_kernel_eq_skeleton]; unfold cc1__nms_kernel_skel
  simp only [k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  rw [body_eq_trip]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _ _ _ _)
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_5 _)

/-! ## The pipeline's proof data -/

/-- The proof data of the second pipeline: the arrays as the region finds them; after the body at a point each input's buffer at
    its block and each output's at what the body leaves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t)
    | ⟨5, _⟩ => out1_5 (iblk1 V c 0 t) (iblk1 V c 1 t) (iblk1 V c 2 t)
    | ⟨6, _⟩ => out1_6 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) := by dsimp only [dat1]
theorem after1_5 (c : Dev nD) (t : Fin cfg1.N) : (dat1 V c).after 5 t = out1_5 (iblk1 V c 0 t) (iblk1 V c 1 t) (iblk1 V c 2 t) := by dsimp only [dat1]
theorem after1_6 (c : Dev nD) (t : Fin cfg1.N) : (dat1 V c).after 6 t = out1_6 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Body

end
-- ==== Proof.KernelRun.lean ====
/- The kernel's whole run, for any float values: what every buffer that outlives a launch holds at the end (`V37`, the
   last of the boundaries' contents, at the contents `outs` the two launches leave), and every semaphore counter zero. -/
module

public import proofs.«01_k».proof.Proof.KernelBody
public import proofs.«01_k».proof.Proof.Gen.KernelIdeal.Regions

@[expose] public section

set_option maxRecDepth 16384

noncomputable section

namespace Cert.KernelIdeal.Run

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two launches leave -/

/-- The first launch's entry contents. -/
abbrev U1 : (c : Dev nD) → (b : Ref sig .tc) → Buf (Elt F) ((c : Thread nD τ).loc b) := fun c b => V1 m c b
/-- The contents after the first launch, its output array at what the pipeline leaves. -/
def X2 (c : Dev nD) : Valuation τ sig (Elt F) := Function.update (V1 m c) main_v2 ((dat0 (U1 m) c).arrAt 2 cfg0.N)
/-- The launches' results as the first launch alone fixes them. -/
def outsA : Outs (F := F) := fun _ r c => X2 m c r
/-- The second launch's entry contents. -/
abbrev U16 : (c : Dev nD) → (b : Ref sig .tc) → Buf (Elt F) ((c : Thread nD τ).loc b) := fun c b => V16 m (outsA m) c b
/-- The contents after the second launch. -/
def X17 (c : Dev nD) : Valuation τ sig (Elt F) :=
  Function.update (Function.update (Function.update (V16 m (outsA m) c) main_v28_0 ((dat1 (U16 m) c).arrAt 4 cfg1.N))
    main_v28_1 ((dat1 (U16 m) c).arrAt 5 cfg1.N)) main_v28_2 ((dat1 (U16 m) c).arrAt 6 cfg1.N)
/-- What each launch leaves in its output arrays. -/
def outs : Outs (F := F) := fun k r c => match k with
  | 2 => X2 m c r
  | _ => X17 m c r

theorem outs_v2 (c : Dev nD) : outs m 2 main_v2 c = (dat0 (U1 m) c).arrAt 2 cfg0.N := by
  show X2 m c main_v2 = _
  unfold X2; exact Function.update_self _ _ _
theorem outs_v28_2 (c : Dev nD) : outs m 17 main_v28_2 c = (dat1 (U16 m) c).arrAt 6 cfg1.N := by
  show X17 m c main_v28_2 = _
  unfold X17; exact Function.update_self _ _ _
theorem outs_v28_1 (c : Dev nD) : outs m 17 main_v28_1 c = (dat1 (U16 m) c).arrAt 5 cfg1.N := by
  show X17 m c main_v28_1 = _
  unfold X17
  rw [Function.update_of_ne (StableHlo.devRef_ne_of_ne (by decide))]
  exact Function.update_self _ _ _
theorem outs_v28_0 (c : Dev nD) : outs m 17 main_v28_0 c = (dat1 (U16 m) c).arrAt 4 cfg1.N := by
  show X17 m c main_v28_0 = _
  unfold X17
  rw [Function.update_of_ne (StableHlo.devRef_ne_of_ne (by decide)), Function.update_of_ne (StableHlo.devRef_ne_of_ne (by decide))]
  exact Function.update_self _ _ _
/-- Up to the second launch only the first one's result is read. -/
theorem V16_outs (c : Dev nD) : V16 m (outs m) c = V16 m (outsA m) c := rfl

/-! ### Each launch's arrays at its exit -/

theorem V2_arr (c : Dev nD) (w : Fin cfg0.W) : (dat0 (U1 m) c).arrAt w cfg0.N = V2 m (outs m) c (Pipeline.arrRef spec0 w) := by
  fin_cases w
  · exact (((dat0 (U1 m) c).arrAt_in 0 rfl _).trans (A_eq0 (U1 m) c 0)).trans (V2_of m (outs m) c main_v0 (by decide)).symm
  · exact (((dat0 (U1 m) c).arrAt_in 1 rfl _).trans (A_eq0 (U1 m) c 1)).trans (V2_of m (outs m) c main_v1 (by decide)).symm
  · exact (outs_v2 m c).symm.trans (show Function.update (V1 m c) (Proc.devRef .tc main_v2) (outs m 2 main_v2 c) (Proc.devRef .tc main_v2) = _ from Function.update_self _ _ _).symm
theorem V2_rest (c : Dev nD) : ∀ b, b ∉ Finset.univ.image (Pipeline.arrRef spec0) → V2 m (outs m) c b = V1 m c b :=
  fun b hb => V2_of m (outs m) c b fun h => hb (Finset.mem_image.mpr ⟨2, Finset.mem_univ _, (List.mem_singleton.mp h).symm⟩)

theorem V17_v28_2 (c : Dev nD) : V17 m (outs m) c main_v28_2 = (dat1 (U16 m) c).arrAt 6 cfg1.N := by
  rw [← outs_v28_2]; exact Function.update_self _ _ _
theorem V17_v28_1 (c : Dev nD) : V17 m (outs m) c main_v28_1 = (dat1 (U16 m) c).arrAt 5 cfg1.N := by
  rw [← outs_v28_1]; unfold V17
  rw [Function.update_of_ne (StableHlo.devRef_ne_of_ne (by decide))]
  exact Function.update_self _ _ _
theorem V17_v28_0 (c : Dev nD) : V17 m (outs m) c main_v28_0 = (dat1 (U16 m) c).arrAt 4 cfg1.N := by
  rw [← outs_v28_0]; unfold V17
  rw [Function.update_of_ne (StableHlo.devRef_ne_of_ne (by decide)), Function.update_of_ne (StableHlo.devRef_ne_of_ne (by decide))]
  exact Function.update_self _ _ _

/-- The second launch's input windows keep their entry contents. -/
theorem V17_in (c : Dev nD) (w : Fin cfg1.W) (h : (cfg1.win w).isOut = false)
    (hr : Pipeline.arrRef spec1 w ∉ ([main_v28_0, main_v28_1, main_v28_2] : List (Ref sig .tc))) :
    (dat1 (U16 m) c).arrAt w cfg1.N = V17 m (outs m) c (Pipeline.arrRef spec1 w) :=
  (((dat1 (U16 m) c).arrAt_in w h _).trans (A_eq1 (U16 m) c w)).trans (V17_of m (outs m) c _ hr).symm
theorem V17_arr (c : Dev nD) (w : Fin cfg1.W) : (dat1 (U16 m) c).arrAt w cfg1.N = V17 m (outs m) c (Pipeline.arrRef spec1 w) := by
  fin_cases w
  · exact V17_in m c 0 rfl (by decide)
  · exact V17_in m c 1 rfl (by decide)
  · exact V17_in m c 2 rfl (by decide)
  · exact V17_in m c 3 rfl (by decide)
  · exact (V17_v28_0 m c).symm
  · exact (V17_v28_1 m c).symm
  · exact (V17_v28_2 m c).symm
theorem V17_rest (c : Dev nD) : ∀ b, b ∉ Finset.univ.image (Pipeline.arrRef spec1) → V17 m (outs m) c b = U16 m c b :=
  fun b hb => V17_of m (outs m) c b fun h => hb (by
    simp only [List.mem_cons, List.not_mem_nil, or_false] at h
    rcases h with h | h | h <;> subst h
    · exact Finset.mem_image.mpr ⟨4, Finset.mem_univ _, rfl⟩
    · exact Finset.mem_image.mpr ⟨5, Finset.mem_univ _, rfl⟩
    · exact Finset.mem_image.mpr ⟨6, Finset.mem_univ _, rfl⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U16 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (V37 m (outs m) c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `V1`, left at `V2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) (A_eq0 (U1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (fun b => V2 m (outs m) c b) ((pdats m 0 c).arrAt · cfg0.N) (V2_arr m c) (V2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `V16`, left at `V17`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U16 m) c).loose
  hwaits := Pipeline.hwaits_of_owed_zero _ _ _ _ L lv 1 fun _ _ => rfl
  pre c := iprop(StableHlo.held (c : Thread nD τ) (Pipeline.ucRefs τ sig) (V16 m (outs m) c) ∗ R c)
  post c := iprop(StableHlo.held (c : Thread nD τ) (Pipeline.ucRefs τ sig) (V17 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U16 m c)
  hentry c := by
    rw [V16_outs]
    rw [Pipeline.ownSems0_none]
    have hsplit := Pipeline.arrays_of_unscopedBufs (p := 1) (pcfgs (F := F)) adm (pdats m) launch1.win launch1.arr_whole c
      ((pdats m 1 c).share_full fun _ => rfl) (U16 m c) (A_eq1 (U16 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U16 m c) (fun b => V17 m (outs m) c b) ((pdats m 1 c).arrAt · cfg1.N) (V17_arr m c) (V17_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's segments in order. -/
abbrev mySegs (c : Dev nD) : List (Pipeline.Seg (pcfgs (F := F)) adm (pdats m) () defs₀ 𝒱₀ L lv) :=
  segs m (outs m) 𝒱₀ L lv E () (pdats m) (reg0 m) (reg1 m) c

/-- @main is the run of the segments. -/
theorem main_run (c : Dev nD) : main (F := F) c = Pipeline.Seg.run (mySegs m c) := (main_chain c).trans (by chain_rfl)

-- `θ_run_regions_kit_dev_sems`'s implicit arguments are found by unifying its conclusion with this one, which takes unfolding
-- plain definitions in a metavariable's type
set_option backward.isDefEq.respectTransparency.types false in
/-- The run: from any memory with zero counters every weakly fair execution of @main terminates, nothing faulting, every
    buffer that outlives the launches ends at the last boundary's contents, and every semaphore counter ends at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = V37 m (outs m) c b)
      ∧ r.2.sem = fun _ => 0) :=
  Pipeline.θ_run_regions_kit_dev_sems (pcfgs (F := F)) adm (pdats m) () cellOf_inj emb₁ defs₀ 𝒱₀ L lv m ρ main (mySegs m)
    (fun c Q => by rw [main_run m c])
    (fun c => by simp only [mySegs, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl, .rfl, .rfl, .rfl, .rfl, .rfl, .rfl,
      .rfl, .rfl, .rfl, .rfl, .rfl, .rfl, .rfl, .rfl, .rfl, .rfl, .rfl, .rfl, .rfl, .rfl, .rfl, .rfl, .rfl, .rfl, by
      show iprop(StableHlo.held (c : Thread nD τ) (Pipeline.ucRefs τ sig) (V37 m (outs m) c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V37 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V37 m (outs m) c) s')
      isplitl [Hh] <;> iassumption)
    (hQ := fun s h hz => ⟨h, funext fun g => hz g (.inr (regions_no_unscoped g.2))⟩)

/-- The frame: the argument arrays end as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (mem_uc main_arg0 (by decide))).trans (V37_main_arg0 m (outs m) c),
     (h.1 c _ (mem_uc main_arg1 (by decide))).trans (V37_main_arg1 m (outs m) c),
     (h.1 c _ (mem_uc main_arg2 (by decide))).trans (V37_main_arg2 m (outs m) c),
     (h.1 c _ (mem_uc main_arg3 (by decide))).trans (V37_main_arg3 m (outs m) c),
     (h.1 c _ (mem_uc main_arg4 (by decide))).trans (V37_main_arg4 m (outs m) c)⟩, h.2⟩) (run m ρ)

end Cert.KernelIdeal.Run

end
-- ==== Proof.KernelFrame.lean ====
/- The frame of the program as printed at bit patterns. The idealized program is the same text, so the run proved for any
   float values is read at `Bits`; that the two printed programs are one and the same is the kernel's definitional check. -/
module

public import proofs.«01_k».proof.Defs
public import proofs.«01_k».proof.Proof.Gen.Kernel
public import proofs.«01_k».proof.Proof.KernelRun

@[expose] public section

set_option maxRecDepth 100000

noncomputable section

namespace Cert.Proof

open Idealize.ShloMosaic Idealize.ShloMosaic.TcCoe Idealize.SL.Sem

/-- The printed program's frame claim is the idealized program's at `Bits`. -/
theorem kernel_frame_same : Cert.quiescent_Kernel (hKernel := Cert.Kernel.Gen.facts) =
    (∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0)) := by chain_rfl

theorem kernel_frame : Cert.quiescent_Kernel (hKernel := Cert.Kernel.Gen.facts) := by
  rw [kernel_frame_same]
  exact fun m ρ _ => Cert.KernelIdeal.Run.frame (F := Bits) m ρ

end Cert.Proof

end
-- ==== Proof.RefRun.lean ====
/- The reference's run, for any float values: what no operation writes is kept across every stretch and every trip of its
   loop, so the arguments end as launched; and its signature declares no semaphore, so every counter is zero. -/
module

public import proofs.«01_k».proof.Proof.Gen.ReferenceIdeal.Run
public import Idealize.ShloMosaic.Lib.Quiescent

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- What a stretch writes is among the listed references. -/
abbrev Writes (ops : List (HloOp τ sig (Elt F))) (W : List (Ref sig .tc)) : Prop :=
  ops.Forall fun op => op.writes ⊆ (W.map (Proc.devRef (τ := τ) .tc)).toFinset

/-- A reference none of the stretches writes is kept across them. -/
theorem afterL_of : ∀ {items : List (List (HloOp τ sig (Elt F)))} {Ws : List (List (Ref sig .tc))}, List.Forall₂ Writes items Ws →
    ∀ (V : Valuation τ sig (Elt F)) {r : Ref sig .tc}, r ∉ Ws.flatten → afterL items V (Proc.devRef .tc r) = V (Proc.devRef .tc r)
  | [], [], .nil, _, _, _ => rfl
  | ops :: rest, W :: Ws, .cons h t, V, r, hr => by
    rw [List.flatten_cons, List.mem_append, not_or] at hr
    rw [afterL_cons, afterL_of t _ hr.2, after_of_writes_sub ops V h hr.1]

/-! The references each stretch after the loop writes. -/
abbrev hostOps0_33_W : List (Ref sig .tc) := [main_v257, main_cst_58]
theorem hostOps0_33_writes : Writes (hostOps0_33 (F := F)) hostOps0_33_W := StableHlo.forall_writes_sub_of_map rfl
abbrev hostOps0_34_W : List (Ref sig .tc) := [main_call16_v0, main_call16_v1, main_call16_v2, main_v258]
theorem hostOps0_34_writes : Writes (hostOps0_34 (F := F)) hostOps0_34_W := StableHlo.forall_writes_sub_of_map rfl
abbrev hostOps0_35_W : List (Ref sig .tc) := [main_values_59, main_indices_60, main_c_61, main_v259, main_v260, main_c_62, main_v261, main_v262, main_v263, main_v264, main_v265, main_cst_63, main_v266, main_v267, main_c_64, main_v268, main_v269, main_c_65, main_v270, main_v271, main_v272, main_v273, main_v274, main_c_66]
theorem hostOps0_35_writes : Writes (hostOps0_35 (F := F)) hostOps0_35_W := StableHlo.forall_writes_sub_of_map rfl
abbrev hostOps0_36_W : List (Ref sig .tc) := [main_call17_v0, main_call17_v1, main_call17_v2, main_v275]
theorem hostOps0_36_writes : Writes (hostOps0_36 (F := F)) hostOps0_36_W := StableHlo.forall_writes_sub_of_map rfl
abbrev hostOps0_37_W : List (Ref sig .tc) := [main_cst_67]
theorem hostOps0_37_writes : Writes (hostOps0_37 (F := F)) hostOps0_37_W := StableHlo.forall_writes_sub_of_map rfl
abbrev hostOps0_38_W : List (Ref sig .tc) := [main_call18_v0, main_call18_v1, main_v276]
theorem hostOps0_38_writes : Writes (hostOps0_38 (F := F)) hostOps0_38_W := StableHlo.forall_writes_sub_of_map rfl

/-- The writes of the stretches before the loop, of the body and of the stretches after it. -/
abbrev preWs : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W, hostOps0_17_W, hostOps0_18_W, hostOps0_19_W, hostOps0_20_W, hostOps0_21_W, hostOps0_22_W, hostOps0_23_W, hostOps0_24_W, hostOps0_25_W, hostOps0_26_W, hostOps0_27_W, hostOps0_28_W, hostOps0_29_W, hostOps0_30_W, hostOps0_31_W, hostOps0_32_W]
abbrev bodyWs : List (List (Ref sig .tc)) := [while0Ops0_W]
abbrev postWs : List (List (Ref sig .tc)) := [hostOps0_33_W, hostOps0_34_W, hostOps0_35_W, hostOps0_36_W, hostOps0_37_W, hostOps0_38_W]
theorem pre_writes : List.Forall₂ Writes (preI (F := F)) preWs := .cons hostOps0_writes <| .cons hostOps0_1_writes <| .cons hostOps0_2_writes <| .cons hostOps0_3_writes <| .cons hostOps0_4_writes <| .cons hostOps0_5_writes <| .cons hostOps0_6_writes <| .cons hostOps0_7_writes <| .cons hostOps0_8_writes <| .cons hostOps0_9_writes <| .cons hostOps0_10_writes <| .cons hostOps0_11_writes <| .cons hostOps0_12_writes <| .cons hostOps0_13_writes <| .cons hostOps0_14_writes <| .cons hostOps0_15_writes <| .cons hostOps0_16_writes <| .cons hostOps0_17_writes <| .cons hostOps0_18_writes <| .cons hostOps0_19_writes <| .cons hostOps0_20_writes <| .cons hostOps0_21_writes <| .cons hostOps0_22_writes <| .cons hostOps0_23_writes <| .cons hostOps0_24_writes <| .cons hostOps0_25_writes <| .cons hostOps0_26_writes <| .cons hostOps0_27_writes <| .cons hostOps0_28_writes <| .cons hostOps0_29_writes <| .cons hostOps0_30_writes <| .cons hostOps0_31_writes <| .cons hostOps0_32_writes <| .nil
theorem body_writes : List.Forall₂ Writes (bodyI (F := F)) bodyWs := .cons while0Ops0_writes <| .nil
theorem post_writes : List.Forall₂ Writes (postI (F := F)) postWs := .cons hostOps0_33_writes <| .cons hostOps0_34_writes <| .cons hostOps0_35_writes <| .cons hostOps0_36_writes <| .cons hostOps0_37_writes <| .cons hostOps0_38_writes <| .nil

variable (m : (ℓ : Loc nD τ sig) → Buf (Elt F) ℓ) (ρ : Dev nD → PrngReg)

/-- What neither the condition nor the body writes is kept across the trips. -/
theorem atK_of (k : ℕ) (c : Dev nD) {r : Ref sig .tc} (h : r ∉ condOps_W ++ bodyWs.flatten) :
    atK m k c (Proc.devRef .tc r) = entryContents preI m c (Proc.devRef .tc r) := by
  have h' := h
  rw [List.mem_append, not_or] at h'
  induction k with
  | zero => rfl
  | succ k ih =>
    show afterL bodyI (after condOps (atK m k c)) _ = _
    rw [afterL_of body_writes _ h'.2, after_of_writes_sub condOps _ condOps_writes h'.1, ih]

/-- A reference nothing in the loop or after it writes ends at what the stretches before the loop leave. -/
theorem final_of_entry (c : Dev nD) {r : Ref sig .tc} (h : r ∉ condOps_W ++ bodyWs.flatten) (hp : r ∉ postWs.flatten) :
    finalContents condOps preI bodyI postI 1000 m c (Proc.devRef .tc r) = entryContents preI m c (Proc.devRef .tc r) := by
  show afterL postI (after condOps (atK m 1000 c)) _ = _
  have h' := h
  rw [List.mem_append, not_or] at h'
  rw [afterL_of post_writes _ hp, after_of_writes_sub condOps _ condOps_writes h'.1, atK_of m 1000 c h]

/-- A reference nothing writes ends as launched. -/
theorem final_of (c : Dev nD) {r : Ref sig .tc} (h : r ∉ condOps_W ++ bodyWs.flatten) (hp : r ∉ postWs.flatten) (he : r ∉ preWs.flatten) :
    finalContents condOps preI bodyI postI 1000 m c (Proc.devRef .tc r) = m ((c.tc : Thread nD τ).loc r) := by
  rw [final_of_entry m c h hp]
  exact afterL_of pre_writes _ he

/-- The run: every unscoped buffer ends at the fold's contents, the arguments as launched, every counter at zero. -/
theorem run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h c main_arg0 rfl).trans (final_of m c (by decide +kernel) (by decide +kernel) (by decide +kernel)),
     (h c main_arg1 rfl).trans (final_of m c (by decide +kernel) (by decide +kernel) (by decide +kernel)),
     (h c main_arg2 rfl).trans (final_of m c (by decide +kernel) (by decide +kernel) (by decide +kernel)),
     (h c main_arg3 rfl).trans (final_of m c (by decide +kernel) (by decide +kernel) (by decide +kernel)),
     (h c main_arg4 rfl).trans (final_of m c (by decide +kernel) (by decide +kernel) (by decide +kernel))⟩,
    sem_eq_zero_of_no_sems rfl _⟩) (run_fold m ρ)

end Cert.ReferenceIdeal.Read

end
-- ==== Proof.Boxes.lean ====
/- The arithmetic of boxes over the extended reals: a decoded box, its area, the overlap ratio of two boxes. Moving two boxes by one
   common distance keeps their ratio; moving them by distances at least 1334 apart makes it zero, the boxes lying in [0, 1333]. -/
module

public import Idealize.ShloMosaic.PureOps.Ideal
public import Idealize.ShloMosaic.PureOps.Ideal.Laws
public import Idealize.ShloMosaic.Lib.IdealHost

@[expose] public section

noncomputable section

namespace Cert.Boxes

open Idealize.ShloMosaic

/-- The constants of the decoding. -/
def half : EReal := Ideal.ofBits .f32 0x3F000000#32
def capLo : EReal := Ideal.ofBits .f32 0xC0845349#32
def capHi : EReal := Ideal.ofBits .f32 0x40845349#32
def imgW : EReal := Ideal.ofBits .f32 0x44A6A000#32
def imgH : EReal := Ideal.ofBits .f32 0x44480000#32

/-- Centre of an interval `[lo, hi]` moved by `d` of its length. -/
def centre (lo hi d : EReal) : EReal := (lo + hi) * half + d * (hi - lo)
/-- Half the interval's length scaled by the exponential of the capped `d`. -/
def reach (lo hi d : EReal) : EReal := (hi - lo) * Ideal.exp (min capHi (max capLo d)) * half
/-- Clipping to `[0, w]`. -/
def clip (w x : EReal) : EReal := min w (max 0 x)

/-- The box an anchor `a` and its regression `d` give, clipped to the image. -/
def dec (a d : Fin 4 → EReal) : Fin 4 → EReal :=
  ![clip imgW (centre (a 0) (a 2) (d 0) - reach (a 0) (a 2) (d 2)),
    clip imgH (centre (a 1) (a 3) (d 1) - reach (a 1) (a 3) (d 3)),
    clip imgW (centre (a 0) (a 2) (d 0) + reach (a 0) (a 2) (d 2)),
    clip imgH (centre (a 1) (a 3) (d 1) + reach (a 1) (a 3) (d 3))]

def area (x : Fin 4 → EReal) : EReal := max 0 (x 2 - x 0) * max 0 (x 3 - x 1)
def inter (x y : Fin 4 → EReal) : EReal :=
  max 0 (min (x 2) (y 2) - max (x 0) (y 0)) * max 0 (min (x 3) (y 3) - max (x 1) (y 1))
/-- The overlap ratio. -/
def iou (x y : Fin 4 → EReal) : EReal :=
  Ideal.div (inter x y) (max (area x + area y - inter x y) (Ideal.ofBits .f32 0x3089705F#32))

theorem iou_comm (x y : Fin 4 → EReal) : iou x y = iou y x := by
  have h : inter x y = inter y x := by
    unfold inter
    rw [min_comm (x 2), max_comm (x 0), min_comm (x 3), max_comm (x 1)]
  unfold iou
  rw [h, add_comm (area x)]

theorem imgW_eq : imgW = ((1333 : ℝ) : EReal) := by
  simp [imgW, Ideal.ofBits, Ideal.ieee, -EReal.coe_mul]; norm_num
theorem imgH_eq : imgH = ((800 : ℝ) : EReal) := by
  simp [imgH, Ideal.ofBits, Ideal.ieee, -EReal.coe_mul]; norm_num
/-- The distance between the boxes of two neighbouring labels. -/
theorem gap_eq : Ideal.ofBits .f32 0x44A6C000#32 = ((1334 : ℝ) : EReal) := by
  simp [Ideal.ofBits, Ideal.ieee, -EReal.coe_mul]; norm_num
theorem eps_pos : 0 < Ideal.ofBits .f32 0x3089705F#32 := by
  simp [Ideal.ofBits, Ideal.ieee, -EReal.coe_mul]
theorem cut_nonneg : 0 ≤ Ideal.ofBits .f32 0x3F19999A#32 := by
  simp [Ideal.ofBits, Ideal.ieee, -EReal.coe_mul]

/-- A clipped coordinate is a real number in `[0, 1333]`. -/
theorem clip_real (w : ℝ) (h0 : 0 ≤ w) (h : w ≤ 1333) (x : EReal) :
    ∃ r : ℝ, clip (w : EReal) x = (r : EReal) ∧ 0 ≤ r ∧ r ≤ 1333 := by
  have hlo : (0 : EReal) ≤ clip (w : EReal) x := le_min (by exact_mod_cast h0) (le_max_left _ _)
  have hhi : clip (w : EReal) x ≤ (w : EReal) := min_le_left _ _
  have ht : clip (w : EReal) x ≠ ⊤ := ne_top_of_le_ne_top (EReal.coe_ne_top w) hhi
  have hb : clip (w : EReal) x ≠ ⊥ := fun e => by rw [e] at hlo; exact absurd hlo (by simp)
  refine ⟨(clip (w : EReal) x).toReal, (EReal.coe_toReal ht hb).symm, ?_, ?_⟩
  · have := hlo
    rw [← EReal.coe_toReal ht hb] at this
    exact_mod_cast this
  · have := hhi
    rw [← EReal.coe_toReal ht hb] at this
    have h2 : (clip (w : EReal) x).toReal ≤ w := by exact_mod_cast this
    linarith

/-- A box with real coordinates in `[0, 1333]`. -/
def InImage (x : Fin 4 → EReal) : Prop := ∃ u : Fin 4 → ℝ, (∀ k, x k = (u k : EReal)) ∧ ∀ k, 0 ≤ u k ∧ u k ≤ 1333

theorem dec_inImage (a d : Fin 4 → EReal) : InImage (dec a d) := by
  have hx := fun x => clip_real 1333 (by norm_num) (by norm_num) x
  have hy := fun x => clip_real 800 (by norm_num) (by norm_num) x
  rw [← imgW_eq] at hx
  rw [← imgH_eq] at hy
  have : ∀ k, ∃ r : ℝ, dec a d k = (r : EReal) ∧ 0 ≤ r ∧ r ≤ 1333 := by
    intro k
    fin_cases k
    · exact hx _
    · exact hy _
    · exact hx _
    · exact hy _
  choose u hu using this
  exact ⟨u, fun k => (hu k).1, fun k => (hu k).2⟩

theorem coe_min (a b : ℝ) : min (a : EReal) (b : EReal) = ((min a b : ℝ) : EReal) :=
  (EReal.coe_strictMono.monotone.map_min).symm
theorem coe_max (a b : ℝ) : max (a : EReal) (b : EReal) = ((max a b : ℝ) : EReal) :=
  (EReal.coe_strictMono.monotone.map_max).symm

theorem side_real (a b c d : ℝ) :
    max 0 (min (a : EReal) b - max (c : EReal) d) = ((max 0 (min a b - max c d) : ℝ) : EReal) := by
  rw [coe_min, coe_max, ← EReal.coe_sub, ← EReal.coe_zero, coe_max]

theorem width_real (a b : ℝ) : max 0 ((a : EReal) - b) = ((max 0 (a - b) : ℝ) : EReal) := by
  rw [← EReal.coe_sub, ← EReal.coe_zero, coe_max]

theorem inter_shift (x y : Fin 4 → EReal) (hx : InImage x) (hy : InImage y) (t : ℝ) :
    inter (fun k => x k + (t : EReal)) (fun k => y k + (t : EReal)) = inter x y := by
  obtain ⟨u, hu, -⟩ := hx
  obtain ⟨v, hv, -⟩ := hy
  unfold inter
  simp only [hu, hv, ← EReal.coe_add, side_real]
  simp only [min_add_add_right, max_add_add_right, add_sub_add_right_eq_sub]

theorem area_shift (x : Fin 4 → EReal) (hx : InImage x) (t : ℝ) : area (fun k => x k + (t : EReal)) = area x := by
  obtain ⟨u, hu, -⟩ := hx
  unfold area
  simp only [hu, ← EReal.coe_add, width_real, add_sub_add_right_eq_sub]

/-- One common move keeps the ratio. -/
theorem iou_shift (x y : Fin 4 → EReal) (hx : InImage x) (hy : InImage y) (t : ℝ) :
    iou (fun k => x k + (t : EReal)) (fun k => y k + (t : EReal)) = iou x y := by
  unfold iou
  rw [inter_shift x y hx hy, area_shift x hx, area_shift y hy]

/-- Moves at least 1334 apart leave no overlap. -/
theorem iou_apart (x y : Fin 4 → EReal) (hx : InImage x) (hy : InImage y) (s t : ℝ) (h : 1334 ≤ |s - t|) :
    iou (fun k => x k + (s : EReal)) (fun k => y k + (t : EReal)) = 0 := by
  obtain ⟨u, hu, bu⟩ := hx
  obtain ⟨v, hv, bv⟩ := hy
  have e : inter (fun k => x k + (s : EReal)) (fun k => y k + (t : EReal)) = 0 := by
    unfold inter
    simp only [hu, hv, ← EReal.coe_add, side_real]
    have : max 0 (min (u 2 + s) (v 2 + t) - max (u 0 + s) (v 0 + t)) = 0 := by
      refine max_eq_left ?_
      have h1 := bu 0; have h2 := bu 2; have h3 := bv 0; have h4 := bv 2
      rcases le_abs.mp h with h | h
      · have a1 := min_le_right (u 2 + s) (v 2 + t)
        have a2 := le_max_left (u 0 + s) (v 0 + t)
        linarith
      · have a1 := min_le_left (u 2 + s) (v 2 + t)
        have a2 := le_max_right (u 0 + s) (v 0 + t)
        linarith
    rw [this, EReal.coe_zero, zero_mul]
  unfold iou Ideal.div
  rw [e]
  have hp : 0 < max (area (fun k => x k + (s : EReal)) + area (fun k => y k + (t : EReal)) - 0) (Ideal.ofBits .f32 0x3089705F#32) :=
    lt_of_lt_of_le eps_pos (le_max_right _ _)
  rw [if_neg hp.ne', zero_mul]

/-- A box moved by its label's distance. -/
def moved (x : Fin 4 → EReal) (l : BitVec 32) : Fin 4 → EReal :=
  fun k => x k + ((l.toInt : ℝ) : EReal) * Ideal.ofBits .f32 0x44A6C000#32

/-- After the move two boxes overlap by more than the cut exactly when they share a label and overlapped so before. -/
theorem moved_iou (x y : Fin 4 → EReal) (hx : InImage x) (hy : InImage y) (l l' : BitVec 32) :
    Ideal.ofBits .f32 0x3F19999A#32 < iou (moved x l) (moved y l') ↔
      l = l' ∧ Ideal.ofBits .f32 0x3F19999A#32 < iou x y := by
  unfold moved
  rw [gap_eq]
  simp only [← EReal.coe_mul]
  by_cases h : l = l'
  · subst h
    rw [iou_shift x y hx hy]
    simp
  · rw [iou_apart x y hx hy]
    · simp only [h, false_and, iff_false, not_lt]
      exact cut_nonneg
    · have hne : l.toInt - l'.toInt ≠ 0 := fun e => h (BitVec.eq_of_toInt_eq (by omega))
      have h1 : (1 : ℝ) ≤ |((l.toInt - l'.toInt : ℤ) : ℝ)| := by
        exact_mod_cast Int.one_le_abs hne
      rw [show (l.toInt : ℝ) * 1334 - (l'.toInt : ℝ) * 1334 = ((l.toInt - l'.toInt : ℤ) : ℝ) * 1334 by push_cast; ring, abs_mul,
        abs_of_pos (by norm_num : (0 : ℝ) < 1334)]
      linarith

/-- The overlap ratio with its zeros left as a constant `z`. -/
theorem iou_z (z : EReal) (hz : z = 0) (x y : Fin 4 → EReal) : iou x y =
    Ideal.div (max z (min (x 2) (y 2) - max (x 0) (y 0)) * max z (min (x 3) (y 3) - max (x 1) (y 1)))
      (max (max z (x 2 - x 0) * max z (x 3 - x 1) + max z (y 2 - y 0) * max z (y 3 - y 1)
        - max z (min (x 2) (y 2) - max (x 0) (y 0)) * max z (min (x 3) (y 3) - max (x 1) (y 1))) (Ideal.ofBits .f32 0x3089705F#32)) := by
  subst hz
  rfl

end Cert.Boxes

end
-- ==== Proof.Order.lean ====
module

public import Idealize.ShloMosaic.PureOps
public import Idealize.ShloMosaic.Lib.SortFacts
public import Idealize.ShloMosaic.Lib.SortPrefix

/-!
# Sorting and greedy suppression, as plain mathematics

A stable sort by a key puts the smaller key first and, between equal keys, the earlier position first.
A greedy suppression over a list ordered one way, and the same suppression over that list sorted, keep the same
elements when the sort changes no order between elements that can suppress one another.
-/

@[expose] public section
namespace Cert.Order
open Idealize.ShloMosaic

/-- Two relations that agree on "a later element before an earlier one" of a list sort it alike. -/
theorem stableSort_congr_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The stable sort by a key: sources of two positions in order have keys in order, and equal keys keep their order. -/
theorem sortedFrom_key {n : Nat} {κ : Type} [LinearOrder κ] (key : Fin n → κ) (B : Fin n → Fin n → Bool)
    (hB : ∀ a b, B a b = decide (key a < key b)) (p q : Fin n) (h : p < q) :
    key (sortedFrom B p) ≤ key (sortedFrom B q) ∧
      (key (sortedFrom B p) = key (sortedFrom B q) → sortedFrom B p < sortedFrom B q) := by
  classical
  have hT := StrictTotalBefore.of_key_then_position (n := n) (fun a b : κ => decide (a < b)) key
    (by simp) (by simpa using fun a b c hab hbc => lt_trans hab hbc) (by simpa using fun a b => lt_trichotomy a b)
  set L : Fin n → Fin n → Bool := fun k k' => decide (key k < key k') || (decide (key k = key k') && decide (k < k')) with hL
  have e : sortPositions n B = sortPositions n L := by
    unfold sortPositions
    refine stableSort_congr_pairwise _ _ _ ?_
    have hs : (List.finRange n).Pairwise (· < ·) := List.pairwise_lt_finRange n
    refine hs.imp fun {a b} hab => ?_
    rw [hB, hL]
    simp [not_lt.mpr hab.le]
  have e' : sortedFrom B = sortedFrom L := by
    funext k
    unfold sortedFrom
    simp only [List.get_eq_getElem, e, Fin.val_cast]
  rw [e']
  have hp := sortedFrom_noInversion L L (fun a b h => hT.asymm a b h) (fun _ _ h => h) hT.negTrans p q h
  have hne : sortedFrom L p ≠ sortedFrom L q := fun hh => h.ne (sortedFrom_injective L hh)
  rw [hL] at hp
  simp only [Bool.or_eq_false_iff, Bool.and_eq_false_iff, decide_eq_false_iff_not, not_lt] at hp
  refine ⟨hp.1, fun hk => ?_⟩
  rcases hp.2 with h2 | h2
  · exact absurd hk.symm h2
  · exact lt_of_le_of_ne h2 hne

/-- What a greedy suppression over `N` steps keeps: step `t` drops the `j` that a kept `t` suppresses. -/
def keepAt (S : Nat → Nat → Prop) : Nat → Nat → Prop
  | 0, _ => True
  | t + 1, j => keepAt S t j ∧ ¬ (S t j ∧ keepAt S t t)

theorem keepAt_stable (S : Nat → Nat → Prop) (hS : ∀ i j, S i j → i < j) (j d : Nat) :
    keepAt S (j + d) j ↔ keepAt S j j := by
  induction d with
  | zero => rfl
  | succ d ih =>
    show (keepAt S (j + d) j ∧ ¬ (S (j + d) j ∧ _)) ↔ _
    rw [ih]
    refine and_iff_left fun ⟨h, _⟩ => ?_
    have := hS _ _ h
    omega

theorem keepAt_iff (S : Nat → Nat → Prop) (t j : Nat) :
    keepAt S t j ↔ ∀ i < t, S i j → ¬ keepAt S i i := by
  induction t with
  | zero => simp [keepAt]
  | succ t ih =>
    show (keepAt S t j ∧ ¬ (S t j ∧ keepAt S t t)) ↔ _
    rw [ih]
    constructor
    · rintro ⟨h, h'⟩ i hi hS hk
      rcases Nat.lt_succ_iff_lt_or_eq.mp hi with hlt | rfl
      · exact h i hlt hS hk
      · exact h' ⟨hS, hk⟩
    · intro h
      exact ⟨fun i hi => h i (Nat.lt_succ_of_lt hi), fun ⟨hS, hk⟩ => h t (Nat.lt_succ_self t) hS hk⟩

/-- After all `N` steps: `j` is kept exactly when no kept `i` suppresses it. -/
theorem keepAt_final (S : Nat → Nat → Prop) (hS : ∀ i j, S i j → i < j) (N j : Nat) (hj : j < N) :
    keepAt S N j ↔ ∀ i < N, S i j → ¬ keepAt S N i := by
  have e : ∀ i < N, (keepAt S N i ↔ keepAt S i i) := fun i hi => by
    have := keepAt_stable S hS i (N - i)
    rwa [Nat.add_sub_cancel' hi.le] at this
  rw [keepAt_iff]
  exact forall₂_congr fun i hi => by rw [e i hi]

/-- Suppression over the sorted list keeps, of the elements that count, those that suppression over the list itself
    keeps. `SR` is over sorted positions, `SK` over the list, `σ` sends a sorted position to its source. -/
theorem keep_agree {N : Nat} (σ : Fin N → Fin N) (hσ : Function.Surjective σ) (vb : Fin N → Prop)
    (SK SR : Nat → Nat → Prop) (hSK : ∀ i j, SK i j → i < j) (hSR : ∀ i j, SR i j → i < j)
    (hvb : ∀ i j : Fin N, SK i j → vb i)
    (hc : ∀ p q : Fin N, vb (σ q) → (SR p q ↔ SK (σ p) (σ q))) :
    ∀ q : Fin N, vb (σ q) → (keepAt SR N q ↔ keepAt SK N (σ q)) := by
  have main : ∀ n : Nat, ∀ q : Fin N, q.val = n → vb (σ q) → (keepAt SR N q ↔ keepAt SK N (σ q)) := by
    intro n
    induction n using Nat.strong_induction_on with
    | _ n ih =>
      intro q hq hv
      rw [keepAt_final SR hSR N q q.isLt, keepAt_final SK hSK N (σ q) (σ q).isLt]
      constructor
      · intro h i hi hS hk
        obtain ⟨p, hp⟩ := hσ ⟨i, hi⟩
        have hi' : i = (σ p : Nat) := by rw [hp]
        subst hi'
        have hR := (hc p q hv).mpr hS
        exact h p p.isLt hR ((ih p (hq ▸ hSR _ _ hR) p rfl (hvb _ _ hS)).mpr hk)
      · intro h p hp hR hk
        have hS := (hc ⟨p, hp⟩ q hv).mp hR
        exact h _ (σ ⟨p, hp⟩).isLt hS ((ih p (hq ▸ hSR _ _ hR) ⟨p, hp⟩ rfl (hvb _ _ hS)).mp hk)
  exact fun q => main q q rfl

end Cert.Order
-- ==== Proof.Gathers.lean ====
module

public import Idealize.ShloMosaic.PureOps
public import Idealize.ShloMosaic.Lib.Pointwise

/-!
# Gathers of rows by an index per result row

A batch of tables indexed by a batch of words, one table indexed by a batch of words, and a batch of vectors indexed by
a batch of words: where the word is a number in range, the gather reads that row.
-/

@[expose] public section
namespace Cert.Gathers
open Idealize.ShloMosaic

variable {α : Type}

/-- A batch of tables. -/
abbrev batchRows (B N K C : Nat) (wf : GatherDims.WF ⟨3, ![B, N, C]⟩ ⟨3, ![B, K, 1]⟩ ⟨3, ![B, K, C]⟩ [2] [1] [0] [1] [0] 2 ![1, 1, C]) :
    GatherDims ⟨3, ![B, N, C]⟩ ⟨3, ![B, K, 1]⟩ ⟨3, ![B, K, C]⟩ where
  offsetDims := [2]
  collapsedSliceDims := [1]
  operandBatchingDims := [0]
  startIndicesBatchingDims := [0]
  startIndexMap := [1]
  indexVectorDim := 2
  sliceSizes := ![1, 1, C]
  wf := wf

theorem batchRows_apply {B N K C : Nat} (wf) (x : (⟨3, ![B, N, C]⟩ : Shape).Idx → α) (idx : IVec ⟨3, ![B, K, 1]⟩ 32)
    (b : Fin B) (k : Fin K) (c : Fin C) (n : Fin N) (h : (idx (ix3 b k (0 : Fin 1))).toInt = n.val) :
    Host.gather (batchRows B N K C wf) x idx (ix3 b k c) = x (ix3 b n c) := by
  unfold Host.gather
  congr 1
  funext a
  refine Fin.ext ?_
  show (batchRows B N K C wf).start (ix3 b k c) idx a + (batchRows B N K C wf).batchCoord (ix3 b k c) a
      + (batchRows B N K C wf).offCoord (ix3 b k c) a = _
  obtain rfl | rfl | rfl : a = 0 ∨ a = 1 ∨ a = 2 := by
    match a with
    | ⟨0, _⟩ => exact Or.inl rfl
    | ⟨1, _⟩ => exact Or.inr (Or.inl rfl)
    | ⟨2, _⟩ => exact Or.inr (Or.inr rfl)
  · rw [GatherDims.start_batching _ _ _ _ (List.mem_singleton.mpr rfl), GatherDims.offCoord_eq_zero _ _ _
      (fun h => ((GatherDims.mem_sKept _ _).mp h).2 (List.mem_singleton.mpr rfl))]
    simp only [Nat.add_zero, Nat.zero_add]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (batchRows B N K C wf).startIndexMap from List.mem_singleton.mpr rfl)]
    have hsi : (batchRows B N K C wf).siIdx (ix3 b k c) ⟨List.idxOf (1 : Fin 3) (batchRows B N K C wf).startIndexMap,
        List.idxOf_lt_length_iff.2 (List.mem_singleton.mpr rfl)⟩ = ix3 b k (0 : Fin 1) := by
      funext e; refine Fin.ext ?_
      match e with
      | ⟨0, _⟩ => rfl
      | ⟨1, _⟩ => rfl
      | ⟨2, _⟩ => rfl
    rw [hsi, h, Int.toNat_natCast]
    show min n.val (N - 1) = n.val
    omega
  · rw [GatherDims.batchCoord_eq_zero _ _ _ (fun h => by simp at h)]
    unfold GatherDims.start
    rw [dif_neg (fun h => by simp at h)]
    simp only [Nat.zero_add]
    rfl

/-- One table. -/
abbrev tableRows (B N K C : Nat) (wf : GatherDims.WF ⟨2, ![N, C]⟩ ⟨3, ![B, K, 1]⟩ ⟨3, ![B, K, C]⟩ [2] [0] [] [0] [] 2 ![1, C]) :
    GatherDims ⟨2, ![N, C]⟩ ⟨3, ![B, K, 1]⟩ ⟨3, ![B, K, C]⟩ where
  offsetDims := [2]
  collapsedSliceDims := [0]
  operandBatchingDims := []
  startIndicesBatchingDims := []
  startIndexMap := [0]
  indexVectorDim := 2
  sliceSizes := ![1, C]
  wf := wf

theorem tableRows_apply {B N K C : Nat} (wf) (x : (⟨2, ![N, C]⟩ : Shape).Idx → α) (idx : IVec ⟨3, ![B, K, 1]⟩ 32)
    (b : Fin B) (k : Fin K) (c : Fin C) (n : Fin N) (h : (idx (ix3 b k (0 : Fin 1))).toInt = n.val) :
    Host.gather (tableRows B N K C wf) x idx (ix3 b k c) = x (ix2 n c) := by
  unfold Host.gather
  congr 1
  funext a
  refine Fin.ext ?_
  show (tableRows B N K C wf).start (ix3 b k c) idx a + (tableRows B N K C wf).batchCoord (ix3 b k c) a
      + (tableRows B N K C wf).offCoord (ix3 b k c) a = _
  rw [GatherDims.batchCoord_eq_zero _ _ _ List.not_mem_nil]
  obtain rfl | rfl : a = 0 ∨ a = 1 := by
    match a with
    | ⟨0, _⟩ => exact Or.inl rfl
    | ⟨1, _⟩ => exact Or.inr rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (tableRows B N K C wf).startIndexMap from List.mem_singleton.mpr rfl)]
    have hsi : (tableRows B N K C wf).siIdx (ix3 b k c) ⟨List.idxOf (0 : Fin 2) (tableRows B N K C wf).startIndexMap,
        List.idxOf_lt_length_iff.2 (List.mem_singleton.mpr rfl)⟩ = ix3 b k (0 : Fin 1) := by
      funext e; refine Fin.ext ?_
      match e with
      | ⟨0, _⟩ => rfl
      | ⟨1, _⟩ => rfl
      | ⟨2, _⟩ => rfl
    rw [hsi, h, Int.toNat_natCast]
    show min n.val (N - 1) = n.val
    omega
  · unfold GatherDims.start
    rw [dif_neg (fun h => by simp at h)]
    simp only [Nat.zero_add]
    rfl

/-- A batch of vectors. -/
abbrev batchVec (B N K : Nat) (wf : GatherDims.WF ⟨2, ![B, N]⟩ ⟨3, ![B, K, 1]⟩ ⟨2, ![B, K]⟩ [] [1] [0] [1] [0] 2 ![1, 1]) :
    GatherDims ⟨2, ![B, N]⟩ ⟨3, ![B, K, 1]⟩ ⟨2, ![B, K]⟩ where
  offsetDims := []
  collapsedSliceDims := [1]
  operandBatchingDims := [0]
  startIndicesBatchingDims := [0]
  startIndexMap := [1]
  indexVectorDim := 2
  sliceSizes := ![1, 1]
  wf := wf

theorem batchVec_apply {B N K : Nat} (wf) (x : (⟨2, ![B, N]⟩ : Shape).Idx → α) (idx : IVec ⟨3, ![B, K, 1]⟩ 32)
    (b : Fin B) (k : Fin K) (n : Fin N) (h : (idx (ix3 b k (0 : Fin 1))).toInt = n.val) :
    Host.gather (batchVec B N K wf) x idx (ix2 b k) = x (ix2 b n) := by
  unfold Host.gather
  congr 1
  funext a
  refine Fin.ext ?_
  show (batchVec B N K wf).start (ix2 b k) idx a + (batchVec B N K wf).batchCoord (ix2 b k) a
      + (batchVec B N K wf).offCoord (ix2 b k) a = _
  obtain rfl | rfl : a = 0 ∨ a = 1 := by
    match a with
    | ⟨0, _⟩ => exact Or.inl rfl
    | ⟨1, _⟩ => exact Or.inr rfl
  · rw [GatherDims.start_batching _ _ _ _ (List.mem_singleton.mpr rfl), GatherDims.offCoord_eq_zero _ _ _
      (fun h => ((GatherDims.mem_sKept _ _).mp h).2 (List.mem_singleton.mpr rfl))]
    simp only [Nat.add_zero, Nat.zero_add]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (batchVec B N K wf).startIndexMap from List.mem_singleton.mpr rfl)]
    have hsi : (batchVec B N K wf).siIdx (ix2 b k) ⟨List.idxOf (1 : Fin 2) (batchVec B N K wf).startIndexMap,
        List.idxOf_lt_length_iff.2 (List.mem_singleton.mpr rfl)⟩ = ix3 b k (0 : Fin 1) := by
      funext e; refine Fin.ext ?_
      match e with
      | ⟨0, _⟩ => rfl
      | ⟨1, _⟩ => rfl
      | ⟨2, _⟩ => rfl
    rw [hsi, h, Int.toNat_natCast]
    show min n.val (N - 1) = n.val
    omega

/-- A word that is a number is not moved by the wrap of negative words. -/
theorem wrap_of_nonneg (w m : BitVec 32) (n : Nat) (h : w.toInt = n) :
    Scalar.select (IntOp.cmpi .slt w 0#32) (IntOp.addi w m) w = w := by
  have : IntOp.cmpi .slt w 0#32 = 0#1 := by
    have h2 : ¬ w.toInt < 0 := by omega
    simp [IntOp.cmpi, BitVec.slt, h2]
  rw [this]
  rfl

theorem toInt_ofNat (n : Nat) (h : n < 2 ^ 31) : (BitVec.ofNat 32 n).toInt = n := by
  have hm : n % 2 ^ 32 = n := Nat.mod_eq_of_lt (by omega)
  rw [BitVec.toInt_eq_toNat_of_lt (by rw [BitVec.toNat_ofNat, hm]; omega), BitVec.toNat_ofNat, hm]

end Cert.Gathers
-- ==== Proof.Sorts.lean ====
/- What the host's two sorting operations give over the extended reals: the greatest entries of each row in falling order with their
   positions, and the positions of a row in rising order. -/
module

public import proofs.«01_k».proof.Proof.Order
public import proofs.«01_k».proof.Proof.Gathers
public import proofs.«01_k».proof.ReferenceIdeal
public import proofs.«01_k».proof.KernelIdeal
public import Idealize.ShloMosaic.Lib.Pointwise

@[expose] public section

noncomputable section

namespace Cert.Sorts

open Idealize.ShloMosaic

variable {N K B : Nat}

/-- The positions of a row in falling order of its entries, equal entries in position order. -/
def downOrder (row : Fin N → EReal) : Fin N → Fin N := sortedFrom fun k k' => decide (row k' < row k)
/-- The positions of a row in rising order of its entries, equal entries in position order. -/
def upOrder (row : Fin N → EReal) : Fin N → Fin N := sortedFrom fun k k' => decide (row k < row k')

theorem downOrder_anti (row : Fin N → EReal) (p q : Fin N) (h : p ≤ q) : row (downOrder row q) ≤ row (downOrder row p) := by
  rcases h.eq_or_lt with rfl | h
  · exact le_rfl
  · exact (Order.sortedFrom_key (fun n => OrderDual.toDual (row n)) (fun k k' => decide (row k' < row k))
      (fun a b => rfl) p q h).1

theorem upOrder_lt (row : Fin N → EReal) (p q : Fin N) (h : p < q) :
    row (upOrder row p) ≤ row (upOrder row q) ∧ (row (upOrder row p) = row (upOrder row q) → upOrder row p < upOrder row q) :=
  Order.sortedFrom_key row _ (fun _ _ => rfl) p q h

theorem upOrder_surjective (row : Fin N → EReal) : Function.Surjective (upOrder row) := sortedFrom_surjective _

/-- Where entries before a position are no greater than it exactly for earlier positions. -/
theorem upOrder_iff (row : Fin N → EReal) (p q : Fin N)
    (h1 : upOrder row p < upOrder row q → row (upOrder row p) ≤ row (upOrder row q))
    (h2 : upOrder row q < upOrder row p → row (upOrder row q) ≤ row (upOrder row p)) :
    p < q ↔ upOrder row p < upOrder row q := by
  constructor
  · intro h
    obtain ⟨a, b⟩ := upOrder_lt row p q h
    rcases lt_trichotomy (upOrder row p) (upOrder row q) with c | c | c
    · exact c
    · exact b (by rw [c])
    · exact b (le_antisymm a (h2 c))
  · intro h
    rcases lt_trichotomy p q with c | c | c
    · exact c
    · subst c; exact absurd h (lt_irrefl _)
    · obtain ⟨a, b⟩ := upOrder_lt row q p c
      exact absurd (b (le_antisymm a (h1 h))) (not_lt.mpr h.le)

theorem along_row (b : Fin B) (k n : Fin N) :
    Shape.Idx.along (s := ⟨2, ![B, N]⟩) (ix2 b k) (1 : Fin 2) n = ix2 b n := by
  funext a
  obtain rfl | rfl : a = 0 ∨ a = 1 := by fin_cases a <;> simp
  · rfl
  · rfl

theorem beq_ofBool (p : Prop) [Decidable p] : (BitVec.ofBool (decide p) == 1#1) = decide p := by
  by_cases h : p <;> simp [h]

theorem gt_eq (x y : EReal) : (FloatOps.cmpfTotal (F := Ideal) (φ := .f32) .gt x y == 1#1) = decide (y < x) := beq_ofBool _

section
variable (x : (⟨2, ![B, N]⟩ : Shape).Idx → EReal) (h : (⟨2, ![B, N]⟩ : Shape).Slices (fun _ => 0) ⟨2, ![B, K]⟩)
  (b : Fin B) (k : Fin K) (hK : K ≤ N)

theorem slice_row {α : Type} (y : (⟨2, ![B, N]⟩ : Shape).Idx → α) :
    extractStridedSlice ⟨2, ![B, K]⟩ (fun _ => 0) y h (ix2 b k) = y (ix2 b (k.castLE hK)) := by
  unfold extractStridedSlice
  congr 1
  funext a
  obtain rfl | rfl : a = 0 ∨ a = 1 := by fin_cases a <;> simp
  · exact Fin.ext (Nat.zero_add _)
  · exact Fin.ext (Nat.zero_add _)

/-- The positions of the greatest entries. -/
theorem topK_idx : (Host.topK ⟨2, ![B, K]⟩ 1 (FloatOps.cmpfTotal (F := Ideal) (φ := .f32) .gt) x h).2 (ix2 b k)
    = BitVec.ofNat 32 (downOrder (fun n => x (ix2 b n)) (k.castLE hK)).val := by
  unfold Host.topK
  dsimp only
  refine (slice_row (h := h) (b := b) (k := k) (hK := hK) _).trans ?_
  unfold Host.sort2
  rw [dif_pos (show 1 < (⟨2, ![B, N]⟩ : Shape).rank from Nat.one_lt_two)]
  show BitVec.ofNat 32 (Fin.val _) = BitVec.ofNat 32 (Fin.val _)
  congr 2
  show sortedFrom _ _ = sortedFrom _ _
  congr 1
  funext n n'
  exact (gt_eq _ _).trans (congrArg₂ (fun u v : EReal => decide (u < v)) (congrArg x (along_row b (k.castLE hK) n')) (congrArg x (along_row b (k.castLE hK) n)))

/-- The greatest entries. -/
theorem topK_val : (Host.topK ⟨2, ![B, K]⟩ 1 (FloatOps.cmpfTotal (F := Ideal) (φ := .f32) .gt) x h).1 (ix2 b k)
    = x (ix2 b (downOrder (fun n => x (ix2 b n)) (k.castLE hK))) := by
  unfold Host.topK
  dsimp only
  refine (slice_row (h := h) (b := b) (k := k) (hK := hK) _).trans ?_
  unfold Host.sort2
  rw [dif_pos (show 1 < (⟨2, ![B, N]⟩ : Shape).rank from Nat.one_lt_two)]
  show x _ = _
  have e : ∀ n n' : Fin N, n = n' → Shape.Idx.along (s := ⟨2, ![B, N]⟩) (ix2 b (k.castLE hK)) (1 : Fin 2) n = ix2 b n' := by
    rintro n _ rfl
    exact along_row _ _ _
  refine congrArg x (e _ _ ?_)
  show sortedFrom _ _ = sortedFrom _ _
  congr 1
  funext n n'
  exact (gt_eq _ _).trans (congrArg₂ (fun u v : EReal => decide (u < v)) (congrArg x (along_row b (k.castLE hK) n')) (congrArg x (along_row b (k.castLE hK) n)))

end

/-- A comparator that compares the first components sorts the positions in rising order. -/
theorem sort2_idx (x : (⟨2, ![B, N]⟩ : Shape).Idx → EReal) (y : IVec ⟨2, ![B, N]⟩ 32)
    (cmp : EReal × BitVec 32 → EReal × BitVec 32 → BitVec 1) (hc : ∀ l r, (cmp l r == 1#1) = decide (l.1 < r.1))
    (hy : ∀ (b : Fin B) (n : Fin N), y (ix2 b n) = BitVec.ofNat 32 n.val) (b : Fin B) (k : Fin N) :
    (Host.sort2 ⟨2, ![B, N]⟩ 1 cmp x y).2 (ix2 b k) = BitVec.ofNat 32 (upOrder (fun n => x (ix2 b n)) k).val := by
  unfold Host.sort2
  rw [dif_pos (show 1 < (⟨2, ![B, N]⟩ : Shape).rank from Nat.one_lt_two)]
  show y _ = _
  have e : ∀ n n' : Fin N, n = n' → Shape.Idx.along (s := ⟨2, ![B, N]⟩) (ix2 b k) (1 : Fin 2) n = ix2 b n' := by
    rintro n _ rfl
    exact along_row _ _ _
  refine (congrArg y (e _ _ ?_)).trans (hy b _)
  show sortedFrom _ _ = sortedFrom _ _
  congr 1
  funext n n'
  exact (hc _ _).trans (congrArg₂ (fun u v : EReal => decide (u < v)) (congrArg x (along_row b k n)) (congrArg x (along_row b k n')))

/-- The two programs' comparator: equal to zero and not-a-number replaced, which over the extended reals changes nothing. -/
theorem cmp_ref (l r : EReal × BitVec 32) :
    (Cert.ReferenceIdeal.comparator_f32_i32_d1 (F := Ideal) l r == 1#1) = decide (l.1 < r.1) := by
  have h : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) = z := by
    intro z
    have h1 : FloatOps.cmpf (F := Ideal) (φ := .f32) .une z z = 0#1 := by
      show BitVec.ofBool (decide (z ≠ z)) = 0#1
      simp
    rw [h1]
    show Scalar.select (BitVec.ofBool (decide (z = Ideal.ofBits .f32 0x00000000#32))) (Ideal.ofBits .f32 0x00000000#32) z = z
    by_cases hz : z = Ideal.ofBits .f32 0x00000000#32
    · simp only [hz, decide_true]; rfl
    · simp only [hz, decide_false]; rfl
  refine Eq.trans ?_ (beq_ofBool (l.1 < r.1))
  unfold Cert.ReferenceIdeal.comparator_f32_i32_d1
  simp only
  rw [h l.1, h r.1]
  rfl

theorem cmp_ker (l r : EReal × BitVec 32) :
    (Cert.KernelIdeal.comparator_f32_i32_d1 (F := Ideal) l r == 1#1) = decide (l.1 < r.1) := cmp_ref l r

end Cert.Sorts

end
-- ==== Proof.Spec.lean ====
/- What both programs compute, over the extended reals, as functions of the inputs read by location: the masked scores, the thousand
   candidates of each image, their boxes, scores and labels, which of them survive the suppression, and the hundred results. -/
module

public import proofs.«01_k».proof.Proof.Boxes
public import proofs.«01_k».proof.Proof.Sorts

@[expose] public section

noncomputable section

namespace Cert.Spec

open Idealize.ShloMosaic
open Cert.Boxes Cert.Sorts Cert.Order

/-! ## Words -/

/-- The floor quotient by 80 as the host programs compute it. -/
def quotW (w : BitVec 32) : BitVec 32 :=
  Scalar.select
    (IntOp.andi
      (IntOp.cmpi .ne (if w = 0 then 0 else if w.msb = true then -1 else 1)
        (if (80#32 : BitVec 32) = 0 then 0 else if BitVec.msb (80#32 : BitVec 32) = true then -1 else 1 : BitVec 32))
      (IntOp.cmpi .ne (IntOp.remsi ArithUnit.host w 80#32) 0#32))
    (IntOp.subi (IntOp.divsi ArithUnit.host w 80#32) 1#32)
    (IntOp.divsi ArithUnit.host w 80#32)

/-- The divisor as the remainder uses it. -/
def modW : BitVec 32 := Scalar.select (IntOp.cmpi .eq (80#32) 0#32) (1#32) (80#32)

/-- The floor remainder by 80 as the host programs compute it. -/
def remW (w : BitVec 32) : BitVec 32 :=
  Scalar.select
    (IntOp.andi
      (IntOp.cmpi .ne (IntOp.cmpi .slt (IntOp.remsi ArithUnit.host w modW) 0#32) (IntOp.cmpi .slt modW 0#32))
      (IntOp.cmpi .ne (IntOp.remsi ArithUnit.host w modW) 0#32))
    (IntOp.addi (IntOp.remsi ArithUnit.host w modW) modW)
    (IntOp.remsi ArithUnit.host w modW)

theorem quotW_toInt (n : Nat) (h : n < 1600000) : (quotW (BitVec.ofNat 32 n)).toInt = ((n / 80 : Nat) : Int) := by
  have hi : (BitVec.ofNat 32 n).toInt = n := Gathers.toInt_ofNat n (by omega)
  have hc : ¬ IntOp.SDivCorner (BitVec.ofNat 32 n) (80#32) := by
    unfold IntOp.SDivCorner
    simp
  have hm : (BitVec.ofNat 32 n).msb = false := by
    rw [BitVec.msb_eq_toInt, hi]; simp
  have hd : (IntOp.divsi ArithUnit.host (BitVec.ofNat 32 n) (80#32)).toInt = ((n / 80 : Nat) : Int) := by
    unfold IntOp.divsi
    rw [if_neg hc, BitVec.toInt_sdiv, hi]
    have : ((80#32 : BitVec 32).toInt) = 80 := by decide
    rw [this]
    have e : ((n : Int).tdiv 80) = ((n / 80 : Nat) : Int) := by
      rw [Int.tdiv_eq_ediv_of_nonneg (by omega)]; rfl
    rw [e]
    have hq : n / 80 < 2 ^ 31 := by omega
    exact Int.bmod_eq_of_le (by omega) (by omega)
  unfold quotW
  have hcond : IntOp.andi
      (IntOp.cmpi .ne (if BitVec.ofNat 32 n = 0 then 0 else if (BitVec.ofNat 32 n).msb = true then -1 else 1)
        (if (80#32 : BitVec 32) = 0 then 0 else if BitVec.msb (80#32 : BitVec 32) = true then -1 else 1 : BitVec 32))
      (IntOp.cmpi .ne (IntOp.remsi ArithUnit.host (BitVec.ofNat 32 n) 80#32) 0#32) = 0#1 := by
    by_cases h0 : BitVec.ofNat 32 n = 0
    · rw [h0]
      decide
    · rw [if_neg h0, hm]
      have : IntOp.cmpi .ne (if false = true then -1 else 1 : BitVec 32)
        (if (80#32 : BitVec 32) = 0 then 0 else if BitVec.msb (80#32 : BitVec 32) = true then -1 else 1 : BitVec 32) = 0#1 := by decide
      rw [this]
      simp [IntOp.andi]
  rw [hcond]
  exact hd

/-! ## The inputs by location -/

/-- The regression, centreness, anchors and class logits at a location of the 100 by 200 grid. -/
structure Inputs where
  reg : Fin 2 → Fin 20000 → Fin 4 → EReal
  ctr : Fin 2 → Fin 20000 → EReal
  anc : Fin 20000 → Fin 4 → EReal
  cls : Fin 2 → Fin 20000 → Fin 80 → EReal

/-- The inputs by location, from the arrays as the programs are given them. -/
def ofArrays (a0 : (⟨4, ![2, 4, 100, 200]⟩ : Shape).Idx → EReal) (a1 : (⟨4, ![2, 1, 100, 200]⟩ : Shape).Idx → EReal)
    (a2 : (⟨2, ![20000, 4]⟩ : Shape).Idx → EReal) (a4 : (⟨3, ![2, 20000, 256]⟩ : Shape).Idx → EReal) : Inputs where
  reg b n c := a0 (ix4 b c ⟨n.val / 200, by omega⟩ ⟨n.val % 200, by omega⟩)
  ctr b n := a1 (ix4 b 0 ⟨n.val / 200, by omega⟩ ⟨n.val % 200, by omega⟩)
  anc n c := a2 (ix2 n c)
  cls b n c := a4 (ix3 b n ⟨c.val, by omega⟩)

/-- The logistic function. -/
def sigm (x : EReal) : EReal := Ideal.div 1 (1 + Ideal.exp (-x))

/-- Location and class of a flat position. -/
def at80 (n : Fin 1600000) : Fin 20000 := ⟨n.val / 80, by omega⟩
def in80 (n : Fin 1600000) : Fin 80 := ⟨n.val % 80, by omega⟩

def cutC : EReal := Ideal.ofBits .f32 0x3D4CCCCD#32
def minusOne : EReal := Ideal.ofBits .f32 0xBF800000#32
def tiny : EReal := Ideal.ofBits .f32 0x2B8CBCCC#32

variable (I : Inputs)

/-- The masked score of one location and class. -/
def score (x c : EReal) : EReal := Scalar.select (BitVec.ofBool (decide (cutC < sigm x))) (sigm x * sigm c) minusOne

/-- The masked scores of an image, flat. -/
def msk (b : Fin 2) (n : Fin 1600000) : EReal := score (I.cls b (at80 n) (in80 n)) (I.ctr b (at80 n))

/-- The flat position of a candidate. -/
def pos (b : Fin 2) (k : Fin 1000) : Fin 1600000 := downOrder (msk I b) (k.castLE (by omega))
def tv (b : Fin 2) (k : Fin 1000) : EReal := msk I b (pos I b k)
def loc (b : Fin 2) (k : Fin 1000) : Fin 20000 := at80 (pos I b k)
def lab (b : Fin 2) (k : Fin 1000) : BitVec 32 := IntOp.addi (remW (BitVec.ofNat 32 (pos I b k).val)) 1#32
def box (b : Fin 2) (k : Fin 1000) : Fin 4 → EReal := dec (I.anc (loc I b k)) (I.reg b (loc I b k))

/-- Whether a score and a box are fit to count. -/
def fit (t : EReal) (x : Fin 4 → EReal) : BitVec 1 :=
  IntOp.andi (IntOp.andi (BitVec.ofBool (decide (0 < t))) (BitVec.ofBool (decide (0 < x 2 - x 0))))
    (BitVec.ofBool (decide (0 < x 3 - x 1)))
def vbit (b : Fin 2) (k : Fin 1000) : BitVec 1 := fit (tv I b k) (box I b k)
/-- The candidate's score. -/
def sc (b : Fin 2) (k : Fin 1000) : EReal := Scalar.select (vbit I b k) (Ideal.sqrt (max (tv I b k) tiny)) minusOne
/-- The candidates in falling order of their scores. -/
def ord (b : Fin 2) : Fin 1000 → Fin 1000 := upOrder fun k => -(sc I b k)

/-- Candidate `i` can suppress candidate `j`, candidates taken as they come. -/
def supK (b : Fin 2) (i j : Nat) : Prop := ∃ (hi : i < 1000) (hj : j < 1000), i < j ∧ vbit I b ⟨j, hj⟩ = 1#1 ∧ vbit I b ⟨i, hi⟩ = 1#1 ∧
  lab I b ⟨i, hi⟩ = lab I b ⟨j, hj⟩ ∧ Ideal.ofBits .f32 0x3F19999A#32 < iou (box I b ⟨i, hi⟩) (box I b ⟨j, hj⟩)

/-- How far a candidate's box is moved, `e` being the distance of one that does not count. -/
def off (e : EReal) (b : Fin 2) (k : Fin 1000) : EReal :=
  Scalar.select (vbit I b k) ((((lab I b k).toInt : ℝ) : EReal) * Ideal.ofBits .f32 0x44A6C000#32) e
def far (e : Fin 1000 → EReal) (b : Fin 2) (k : Fin 1000) : Fin 4 → EReal := fun c => box I b k c + off I (e k) b k

/-- The same in falling order of scores, on the moved boxes. -/
def supR (e : Fin 1000 → EReal) (b : Fin 2) (p q : Nat) : Prop := ∃ (hp : p < 1000) (hq : q < 1000), p < q ∧
  Ideal.ofBits .f32 0x3F19999A#32 < iou (far I e b (ord I b ⟨p, hp⟩)) (far I e b (ord I b ⟨q, hq⟩))

/-- The surviving candidates' scores, in falling order of all scores. -/
def fin (b : Fin 2) (q : Fin 1000) : EReal :=
  open Classical in
  Scalar.select (IntOp.andi (BitVec.ofBool (decide (keepAt (supK I b) 1000 (ord I b q).val))) (vbit I b (ord I b q))) (sc I b (ord I b q)) minusOne

/-- The hundred results. -/
def best (b : Fin 2) (h : Fin 100) : Fin 1000 := downOrder (fin I b) (h.castLE (by omega))
def outBox (b : Fin 2) (h : Fin 100) : Fin 4 → EReal := box I b (ord I b (best I b h))
def outSc (b : Fin 2) (h : Fin 100) : EReal := max 0 (fin I b (best I b h))
def outLab (b : Fin 2) (h : Fin 100) : BitVec 32 :=
  Scalar.select (BitVec.ofBool (decide (0 < fin I b (best I b h)))) (lab I b (ord I b (best I b h))) 0#32

/-! ## The two suppressions agree -/

theorem minusOne_eq : minusOne = ((-1 : ℝ) : EReal) := by
  simp [minusOne, Ideal.ofBits, Ideal.ieee, -EReal.coe_mul, -EReal.coe_neg]; norm_num
theorem tiny_nonneg : 0 ≤ tiny := by
  simp [tiny, Ideal.ofBits, Ideal.ieee, -EReal.coe_mul]

theorem sqrt_coe (r : ℝ) : Ideal.sqrt (r : EReal) = if r < 0 then ⊥ else (Real.sqrt r : EReal) := rfl

theorem sqrt_mono : Monotone Ideal.sqrt := by
  intro x y h
  induction x with
  | bot => exact bot_le
  | top => rw [top_le_iff.mp h]
  | coe x =>
    induction y with
    | bot => exact absurd h (by simp)
    | top => exact le_top
    | coe y =>
      have h' : x ≤ y := EReal.coe_le_coe_iff.mp h
      rw [sqrt_coe, sqrt_coe]
      by_cases hx : x < 0
      · simp [hx]
      · have hy : ¬ y < 0 := fun c => hx (lt_of_le_of_lt h' c)
        simp only [hx, hy, if_false]
        exact EReal.coe_le_coe_iff.mpr (Real.sqrt_le_sqrt h')

theorem sqrt_nonneg (x : EReal) (h : 0 ≤ x) : 0 ≤ Ideal.sqrt x := by
  have := sqrt_mono h
  refine le_trans ?_ this
  rw [← EReal.coe_zero, sqrt_coe]
  simp

theorem bit_cases (w : BitVec 1) : w = 1#1 ∨ w = 0#1 := by
  revert w; decide

theorem sc_of_fit (b : Fin 2) (k : Fin 1000) (h : vbit I b k = 1#1) : sc I b k = Ideal.sqrt (max (tv I b k) tiny) := by
  unfold sc; rw [h]; rfl
theorem sc_of_unfit (b : Fin 2) (k : Fin 1000) (h : vbit I b k = 0#1) : sc I b k = minusOne := by
  unfold sc; rw [h]; rfl

theorem sc_anti (b : Fin 2) (i j : Fin 1000) (hij : i < j) (hi : vbit I b i = 1#1) (hj : vbit I b j = 1#1) : sc I b j ≤ sc I b i := by
  rw [sc_of_fit I b i hi, sc_of_fit I b j hj]
  refine sqrt_mono (max_le_max ?_ le_rfl)
  exact downOrder_anti (msk I b) _ _ (by exact hij.le)

theorem box_inImage (b : Fin 2) (k : Fin 1000) : InImage (box I b k) := dec_inImage _ _

theorem far_of_fit (e : Fin 1000 → EReal) (b : Fin 2) (k : Fin 1000) (h : vbit I b k = 1#1) :
    far I e b k = moved (box I b k) (lab I b k) := by
  unfold far off moved; rw [h]; rfl

theorem supK_fin (b : Fin 2) (i j : Fin 1000) : supK I b i j ↔ i < j ∧ vbit I b j = 1#1 ∧ vbit I b i = 1#1 ∧ lab I b i = lab I b j ∧
    Ideal.ofBits .f32 0x3F19999A#32 < iou (box I b i) (box I b j) :=
  ⟨fun ⟨_, _, h⟩ => h, fun h => ⟨i.2, j.2, h⟩⟩

theorem supR_fin (e : Fin 1000 → EReal) (b : Fin 2) (p q : Fin 1000) : supR I e b p q ↔ p < q ∧
    Ideal.ofBits .f32 0x3F19999A#32 < iou (far I e b (ord I b p)) (far I e b (ord I b q)) :=
  ⟨fun ⟨_, _, h⟩ => h, fun h => ⟨p.2, q.2, h⟩⟩

theorem ord_lt (b : Fin 2) (p q : Fin 1000) (h : p < q) : sc I b (ord I b q) ≤ sc I b (ord I b p) :=
  EReal.neg_le_neg_iff.mp (upOrder_lt (fun k => -(sc I b k)) p q h).1

theorem ord_iff (b : Fin 2) (p q : Fin 1000) (hp : vbit I b (ord I b p) = 1#1) (hq : vbit I b (ord I b q) = 1#1) :
    p < q ↔ ord I b p < ord I b q :=
  upOrder_iff (fun k => -(sc I b k)) p q
    (fun h => EReal.neg_le_neg_iff.mpr (sc_anti I b _ _ h hp hq)) (fun h => EReal.neg_le_neg_iff.mpr (sc_anti I b _ _ h hq hp))

theorem unfit_lt (b : Fin 2) (i j : Fin 1000) (hi : vbit I b i = 0#1) (hj : vbit I b j = 1#1) : sc I b i < sc I b j := by
  rw [sc_of_unfit I b _ hi, sc_of_fit I b _ hj, minusOne_eq]
  refine lt_of_lt_of_le ?_ (sqrt_nonneg _ (le_trans tiny_nonneg (le_max_right _ tiny)))
  rw [← EReal.coe_zero, EReal.coe_lt_coe_iff]
  norm_num

theorem sup_iff (e : Fin 1000 → EReal) (b : Fin 2) (p q : Fin 1000) (hq : vbit I b (ord I b q) = 1#1) :
    supR I e b p q ↔ supK I b (ord I b p) (ord I b q) := by
  rw [supR_fin, supK_fin]
  rcases bit_cases (vbit I b (ord I b p)) with hp | hp
  · rw [← ord_iff I b p q hp hq, far_of_fit I e b _ hp, far_of_fit I e b _ hq,
      moved_iou _ _ (box_inImage I b _) (box_inImage I b _)]
    exact and_congr_right fun _ => ⟨fun h => ⟨hq, hp, h⟩, fun h => h.2.2⟩
  · constructor
    · rintro ⟨h1, -⟩
      exact absurd (ord_lt I b p q h1) (not_le.mpr (unfit_lt I b _ _ hp hq))
    · rintro ⟨-, -, h, -⟩
      rw [hp] at h
      exact absurd h (by decide)

/-- A candidate that counts survives the one suppression exactly when it survives the other. -/
theorem keep_iff (e : Fin 1000 → EReal) (b : Fin 2) (q : Fin 1000) (hq : vbit I b (ord I b q) = 1#1) :
    keepAt (supR I e b) 1000 q ↔ keepAt (supK I b) 1000 (ord I b q) :=
  keep_agree (ord I b) (upOrder_surjective _) (fun k => vbit I b k = 1#1) (supK I b) (supR I e b)
    (fun _ _ ⟨_, _, h, _⟩ => h) (fun _ _ ⟨_, _, h, _⟩ => h) (fun _ _ ⟨_, _, _, _, h, _⟩ => h)
    (fun p q h => sup_iff I e b p q h) q hq

/-- The survivors' scores by the suppression in falling order. -/
theorem fin_eq (e : Fin 1000 → EReal) (b : Fin 2) (q : Fin 1000) (w : BitVec 1) (hw : w = 1#1 ↔ keepAt (supR I e b) 1000 q) :
    Scalar.select (IntOp.andi w (vbit I b (ord I b q))) (sc I b (ord I b q)) minusOne = fin I b q := by
  unfold fin
  rcases bit_cases (vbit I b (ord I b q)) with h | h
  · congr 2
    rw [keep_iff I e b q h] at hw
    by_cases hk : keepAt (supK I b) 1000 (ord I b q)
    · rw [hw.mpr hk]; simp [hk]
    · rcases bit_cases w with h' | h'
      · exact absurd (hw.mp h') hk
      · rw [h']; simp [hk]
  · rw [h]
    congr 1
    simp [IntOp.andi]

end Cert.Spec

end
-- ==== Proof.KerScore.lean ====
module
public import proofs.«01_k».proof.Proof.KernelBody
public import proofs.«01_k».proof.Proof.Spec
public import Idealize.ShloMosaic.Lib.Pipeline.ValueKit
public import Idealize.ShloMosaic.Lib.Pointwise
@[expose] public section
set_option maxRecDepth 16384
noncomputable section
namespace Cert.KernelIdeal.Body
open Cert.KernelIdeal.Gen
open Idealize.ShloMosaic Idealize.ShloMosaic.TcCoe Idealize.ShloMosaic.Tactic
open Idealize.SL.Sem
open Idealize.ShloMosaic.Pipeline (Dat Cfg Window)
open Cert.Spec

theorem select_if {α : Type} (p : Prop) [Decidable p] (a b : α) :
    Scalar.select (BitVec.ofBool (decide p)) a b = if p then a else b := by
  by_cases h : p <;> simp [h, Scalar.select]

/-- One element of the masked scores of a block. -/
theorem score_pay (x0 : Vec Ideal S2000x128 .f32) (x1 : Vec Ideal S2000x1 .f32) (r : Fin 2000) (c : Fin 80) :
    k0_pay1 x0 x1 (ix2 r c) = score (x0 (ix2 r ⟨c.val, by omega⟩)) (x1 (ix2 r 0)) := by
  unfold k0_pay1
  pointwise
  exact (select_if _ _ _).symm

theorem ix2_at {a b : Nat} (y : (⟨2, ![a, b]⟩ : Shape).Idx) : y = ix2 (y 0) (y 1) := by
  funext d
  obtain rfl | rfl : d = 0 ∨ d = 1 := by fin_cases d <;> simp
  · rfl
  · rfl

variable (V : (c : Dev nD) → (b : Ref sig .tc) → Buf (Elt Ideal) ((c : Thread nD τ).loc b))

/-- What the first launch leaves in the array of masked scores. -/
def scores (c : Dev nD) : S40000x80.Idx → EReal := fun i =>
  score ((V c main_v0 : S40000x256.Idx → EReal) (ix2 (i 0) ⟨(i 1).val, by have := (i 1).2; simp at this ⊢; omega⟩)) ((V c main_v1 : S40000x1.Idx → EReal) (ix2 (i 0) 0))

theorem index0_0 : ∀ t : Fin cfg0.grid.N, win0_0.index t = ![t.val, 0] := by decide +kernel
theorem index0_1 : ∀ t : Fin cfg0.grid.N, win0_1.index t = ![t.val, 0] := by decide +kernel
theorem index0_2 : ∀ t : Fin cfg0.grid.N, win0_2.index t = ![t.val, 0] := by decide +kernel

theorem arr0 (c : Dev nD) : (dat0 V c).arrAt 2 cfg0.N = scores V c := by
  refine (dat0 V c).arrAt_eq_of_covers 2 _ (by decide +kernel) fun t hf y => ?_
  blk_simp
  rw [after0_2]
  frame_out
  refine (congrArg (k0_pay1 (iblk0 V c 0 t) (iblk0 V c 1 t)) (ix2_at (a := 2000) (b := 80) y)).trans ?_
  refine (score_pay _ _ _ _).trans ?_
  unfold scores
  refine congrArg₂ score ?_ ?_
  · refine congrArg (V c main_v0) ?_
    funext d
    obtain rfl | rfl : d = 0 ∨ d = 1 := by fin_cases d <;> simp
    · apply Fin.ext
      blk_simp [index0_0, index0_2]
    · apply Fin.ext
      blk_simp [index0_0, index0_2]
  · refine congrArg (V c main_v1) ?_
    funext d
    obtain rfl | rfl : d = 0 ∨ d = 1 := by fin_cases d <;> simp
    · apply Fin.ext
      blk_simp [index0_1, index0_2]
    · apply Fin.ext
      blk_simp [index0_1, index0_2]
-- ==== Proof.KerTrip.lean ====
module
public import proofs.«01_k».proof.Proof.KernelBody
public import proofs.«01_k».proof.Proof.Spec
public import proofs.«01_k».proof.Proof.Gathers
public import Idealize.ShloMosaic.Lib.Pipeline.ValueKit
public import Idealize.ShloMosaic.Lib.Pointwise
@[expose] public section
set_option maxRecDepth 16384
noncomputable section
namespace Cert.KernelIdeal.Body
open Cert.KernelIdeal.Gen
open Idealize.ShloMosaic Idealize.ShloMosaic.TcCoe Idealize.ShloMosaic.Tactic
open Idealize.SL.Sem
open Cert.Spec Cert.Boxes

/-- A lane the loop visits. -/
abbrev lane (k : Fin 1000) : Fin 1024 := ⟨k.val, by omega⟩

theorem iv_trip (k : Nat) : Scf.iv 0#32 1#32 k = BitVec.ofNat 32 k := by
  simp [Scf.iv]

theorem eq_ofNat (j k : Nat) (hj : j < 2 ^ 31) (hk : k < 2 ^ 31) :
    IntOp.cmpi .eq (BitVec.ofNat 32 j) (BitVec.ofNat 32 k) = BitVec.ofBool (decide (j = k)) := by
  have : BitVec.ofNat 32 j = BitVec.ofNat 32 k ↔ j = k := by
    rw [← BitVec.toInt_inj, Gathers.toInt_ofNat j hj, Gathers.toInt_ofNat k hk]
    exact Nat.cast_inj
  unfold IntOp.cmpi
  refine congrArg BitVec.ofBool ?_
  by_cases h : j = k
  · simp [h]
  · simp [h, this]

/-- A bit as a number. -/
theorem sitofp_bit (p : Prop) [Decidable p] :
    FloatOps.sitofp (F := Ideal) FTy.f32 (BitVec.setWidth 32 (BitVec.ofBool (decide p))) = if p then (1 : EReal) else 0 := by
  by_cases h : p <;> simp [h, FloatOps.sitofp]

/-- The row that is one at the visited lane and zero elsewhere. -/
theorem oneHot_apply (k : Fin 1000) (j : Fin 1024) :
    k1_pay11 (F := Ideal) lanes 0#32 1#32 k (ix2 0 j) = if j = lane k then 1 else 0 := by
  unfold k1_pay11 lanes
  pointwise
  rw [iv_trip, eq_ofNat _ _ (by omega) (by omega), sitofp_bit]
  by_cases h : j = lane k
  · rw [if_pos h, if_pos (by rw [h])]
  · rw [if_neg h, if_neg fun h' => h (Fin.ext h')]

/-- The value a one-hot sum picks out of a row. -/
def pick (x : FVec Ideal S1x1024 .f32) (k : Fin k1_t1_loop.trips) : EReal :=
  extractAt ![0, 0, 0] (shapeCast S1x1x1 (multiReduction .add [1, 2] S1 (shapeCast S1x1x1024 (mulf x (k1_pay11 (F := Ideal) lanes 0#32 1#32 k)) shapeCasts_S1x1024_S1x1x1024)
    0x00000000#32 reduces_S1x1x1024_S1 (.inl rfl) rfl) shapeCasts_S1_S1x1x1) inpos_S1x1x1_p0_0_0

theorem pick_eq (x : FVec Ideal S1x1024 .f32) (k : Fin 1000) : pick x k = x (ix2 0 (lane k)) := by
  unfold pick
  pointwise
  simp only [oneHot_apply]
  simp

variable (a b a' b' : FVec Ideal S1x1024 .f32) (s l : Vec Ideal S1x1x1024 .f32)

/-- The box at a lane. -/
def boxAt (j : Fin 1024) : Fin 4 → EReal := ![a (ix2 0 j), b (ix2 0 j), a' (ix2 0 j), b' (ix2 0 j)]

theorem fit_at (j : Fin 1024) : k1_pay4 a b a' b' s (ix2 0 j) = fit (s (ix3 0 0 j)) (boxAt a b a' b' j) := by
  unfold k1_pay4 k1_pay2 k1_pay3
  pointwise
  rfl

theorem pay12_eq (v : FVec Ideal S1x1024 .f32) (k : Fin k1_t1_loop.trips) : k1_pay12 v lanes 0#32 1#32 k = pick v k := by
  unfold k1_pay12 pick; rfl
theorem pay13_eq (v : FVec Ideal S1x1024 .f32) (k : Fin k1_t1_loop.trips) : k1_pay13 v lanes 0#32 1#32 k = pick v k := by
  unfold k1_pay13 pick; rfl
theorem pay14_eq (v w : FVec Ideal S1x1024 .f32) (k : Fin k1_t1_loop.trips) : k1_pay14 v lanes 0#32 1#32 k w = pick (mulf w v) k := by
  unfold k1_pay14 pick; rfl
theorem pay15_eq (v : FVec Ideal S1x1024 .f32) (k : Fin k1_t1_loop.trips) :
    k1_pay15 v lanes 0#32 1#32 k = maximumf v (broadcast S1x1024 (pick v k)) := by
  unfold k1_pay15 pick; rfl
theorem pay16_eq (v : FVec Ideal S1x1024 .f32) (k : Fin k1_t1_loop.trips) :
    k1_pay16 v lanes 0#32 1#32 k = minimumf v (broadcast S1x1024 (pick v k)) := by
  unfold k1_pay16 pick; rfl
theorem pay17_eq (v w : FVec Ideal S1x1024 .f32) (k : Fin k1_t1_loop.trips) :
    k1_pay17 v w lanes 0#32 1#32 k = maximumf (broadcast S1x1024 (Scalar.ofBits .f32 0x00000000#32))
      (subf (minimumf w (broadcast S1x1024 (pick w k))) (maximumf v (broadcast S1x1024 (pick v k)))) := by
  unfold k1_pay17 pick; rfl

theorem trip_eq (k : Fin k1_t1_loop.trips) (acc : FVec Ideal S1x1024 .f32) : trip a b a' b' s l k acc
    = k1_pay9 a b a' b' s l acc (Scf.iv 0#32 1#32 k) (pick (k1_pay7 a b a' b') k) (pick (k1_pay1 l) k)
      (pick (mulf acc (k1_pay5 a b a' b' s)) k) (maximumf b (broadcast S1x1024 (pick b k))) (minimumf b' (broadcast S1x1024 (pick b' k)))
      (maximumf (broadcast S1x1024 (Scalar.ofBits .f32 0x00000000#32))
        (subf (minimumf a' (broadcast S1x1024 (pick a' k))) (maximumf a (broadcast S1x1024 (pick a k))))) := by
  unfold trip
  rw [pay12_eq, pay13_eq, pay14_eq, pay15_eq, pay16_eq, pay17_eq]

/-- One trip at a lane. -/
theorem trip_at (k : Fin 1000) (acc : FVec Ideal S1x1024 .f32) (j : Fin 1024) :
    trip a b a' b' s l k acc (ix2 0 j) = Scalar.select (IntOp.andi (IntOp.andi (IntOp.andi (IntOp.andi
      (BitVec.ofBool (decide (Ideal.ofBits FTy.f32 0x3F19999A#32 < iou (boxAt a b a' b' j) (boxAt a b a' b' (lane k)))))
      (IntOp.cmpi .sgt (BitVec.ofNat 32 j.val) (BitVec.ofNat 32 k.val))) (fit (s (ix3 0 0 j)) (boxAt a b a' b' j)))
      (BitVec.ofBool (decide (l (ix3 0 0 j) = l (ix3 0 0 (lane k))))))
      (BitVec.ofBool (decide (0 < acc (ix2 0 (lane k)) * FloatOps.sitofp (F := Ideal) FTy.f32
        (BitVec.setWidth 32 (fit (s (ix3 0 0 (lane k))) (boxAt a b a' b' (lane k)))))))) 0 (acc (ix2 0 j)) := by
  refine (congrFun (trip_eq a b a' b' s l k acc) _).trans ?_
  rw [pick_eq, pick_eq, pick_eq, pick_eq, pick_eq, pick_eq, pick_eq, iv_trip]
  unfold k1_pay9 k1_pay7 k1_pay5 k1_pay2 k1_pay3 k1_pay1
  pointwise
  rw [fit_at, fit_at]
  rfl

/-- What holds before the first trip and is carried over each trip holds after the last. -/
theorem foldl_inv {σ : Type} : ∀ (n : Nat) (g : Fin n → σ → σ) (init : σ) (P : Nat → σ → Prop), P 0 init →
    (∀ (k : Fin n) acc, P k acc → P (k + 1) (g k acc)) → P n ((List.finRange n).foldl (fun acc k => g k acc) init)
  | 0, _, _, _, h0, _ => h0
  | n + 1, g, init, P, h0, hs => by
    rw [List.finRange_succ_last, List.foldl_append, List.foldl_map]
    exact hs (Fin.last n) _ (foldl_inv n (fun k acc => g k.castSucc acc) init P h0 fun k acc h => hs k.castSucc acc h)

theorem bits5 (p q r s t : BitVec 1) (x y : EReal) (R : Prop) [Decidable R] (h : (p = 1#1 ∧ q = 1#1 ∧ r = 1#1 ∧ s = 1#1 ∧ t = 1#1) ↔ R) :
    Scalar.select (IntOp.andi (IntOp.andi (IntOp.andi (IntOp.andi p q) r) s) t) x y = if R then x else y := by
  rw [if_congr h.symm rfl rfl]
  rcases bit_cases p with rfl | rfl <;> rcases bit_cases q with rfl | rfl <;> rcases bit_cases r with rfl | rfl <;>
    rcases bit_cases s with rfl | rfl <;> rcases bit_cases t with rfl | rfl <;> simp [Scalar.select, IntOp.andi]

theorem ofBool_one (p : Prop) [Decidable p] : BitVec.ofBool (decide p) = 1#1 ↔ p := by
  by_cases h : p <;> simp [h]

theorem sgt_one (q k : Nat) (hq : q < 1024) (hk : k < 1024) : IntOp.cmpi .sgt (BitVec.ofNat 32 q) (BitVec.ofNat 32 k) = 1#1 ↔ k < q := by
  have e : IntOp.cmpi .sgt (BitVec.ofNat 32 q) (BitVec.ofNat 32 k) = BitVec.ofBool (decide (k < q)) := by
    simp [IntOp.cmpi, BitVec.slt, Gathers.toInt_ofNat q (by omega), Gathers.toInt_ofNat k (by omega)]
  rw [e, ofBool_one]

theorem label_inj (x y : BitVec 32) : ((x.toInt : ℝ) : EReal) = ((y.toInt : ℝ) : EReal) ↔ y = x := by
  rw [EReal.coe_eq_coe_iff, Int.cast_inj, BitVec.toInt_inj, eq_comm]

/-- A product of two truth values is positive when both hold. -/
theorem both_pos (w : BitVec 1) (p : Prop) [Decidable p] :
    0 < (if p then (1 : EReal) else 0) * FloatOps.sitofp (F := Ideal) FTy.f32 (BitVec.setWidth 32 w) ↔ p ∧ w = 1#1 := by
  have e : FloatOps.sitofp (F := Ideal) FTy.f32 (BitVec.setWidth 32 w) = if w = 1#1 then (1 : EReal) else 0 := by
    refine Eq.trans ?_ (sitofp_bit (w = 1#1))
    congr 2
    rcases bit_cases w with h | h <;> rw [h] <;> rfl
  rw [e]
  by_cases hp : p <;> by_cases hw : w = 1#1 <;> simp [hp, hw]

section Keep
variable (I : Inputs) (d : Fin 2)
  (hx : ∀ j : Fin 1000, boxAt a b a' b' (lane j) = box I d j)
  (hs : ∀ j : Fin 1000, s (ix3 0 0 (lane j)) = tv I d j)
  (hl : ∀ j : Fin 1000, l (ix3 0 0 (lane j)) = (((lab I d j).toInt : ℝ) : EReal))
include hx hs hl

open Classical in
/-- The mask the loop leaves: one at the candidates that survive. -/
theorem kept_at (j : Fin 1000) : Scf.fold (trip a b a' b' s l) k1_pay8 (ix2 0 (lane j)) = if Order.keepAt (supK I d) 1000 j then (1 : EReal) else 0 := by
  rw [Scf.fold_eq]
  refine foldl_inv 1000 (trip a b a' b' s l) k1_pay8
    (fun t acc => ∀ j : Fin 1000, acc (ix2 0 (lane j)) = if Order.keepAt (supK I d) t j then (1 : EReal) else 0) (fun j => ?_) (fun k acc h j => ?_) j
  · refine Eq.trans ?_ (if_pos trivial).symm
    unfold k1_pay8
    pointwise
  · refine (trip_at a b a' b' s l k acc (lane j)).trans ?_
    refine (bits5 _ _ _ _ _ _ _ (supK I d k j ∧ Order.keepAt (supK I d) k k) ?_).trans ?_
    · rw [ofBool_one, ofBool_one, ofBool_one, sgt_one _ _ (by omega) (by omega), hs, hs, hl, hl, hx, hx, h k, both_pos, label_inj, iou_comm, supK_fin]
      exact ⟨fun ⟨h1, h2, h3, h4, h5, h6⟩ => ⟨⟨h2, h3, h6, h4, h1⟩, h5⟩, fun ⟨⟨h2, h3, h6, h4, h1⟩, h5⟩ => ⟨h1, h2, h3, h4, h5, h6⟩⟩
    · rw [h j]
      have e : Order.keepAt (supK I d) (k + 1) j ↔ Order.keepAt (supK I d) k j ∧ ¬ (supK I d k j ∧ Order.keepAt (supK I d) k k) := Iff.rfl
      rw [if_congr e rfl rfl]
      by_cases h1 : Order.keepAt (supK I d) k j
      · simp only [h1, true_and, if_true, ite_not]
      · simp only [h1, false_and, if_false, ite_self]
end Keep
-- ==== Proof.KerBoxes.lean ====
module
public import proofs.«01_k».proof.Proof.KerTrip
@[expose] public section
set_option maxRecDepth 16384
noncomputable section
namespace Cert.KernelIdeal.Body
open Cert.KernelIdeal.Gen
open Idealize.ShloMosaic Idealize.ShloMosaic.TcCoe Idealize.ShloMosaic.Tactic
open Idealize.SL.Sem
open Idealize.ShloMosaic.Pipeline (Dat Cfg Window)
open Cert.Spec Cert.Boxes

variable (V : (c : Dev nD) → (b : Ref sig .tc) → Buf (Elt Ideal) ((c : Thread nD τ).loc b))

/-- One image of an array. -/
def image4 (x : S2x4x1024.Idx → EReal) (d : Fin 2) : Vec Ideal S1x4x1024 .f32 := fun y => x (ix3 d (y 1) (y 2))
def image1 (x : S2x1x1024.Idx → EReal) (d : Fin 2) : Vec Ideal S1x1x1024 .f32 := fun y => x (ix3 d (y 1) (y 2))

theorem index1_0 : ∀ t : Fin cfg1.grid.N, win1_0.index t = ![t.val, 0, 0] := by decide +kernel
theorem index1_1 : ∀ t : Fin cfg1.grid.N, win1_1.index t = ![t.val, 0, 0] := by decide +kernel
theorem index1_2 : ∀ t : Fin cfg1.grid.N, win1_2.index t = ![t.val, 0, 0] := by decide +kernel
theorem index1_3 : ∀ t : Fin cfg1.grid.N, win1_3.index t = ![t.val, 0, 0] := by decide +kernel
theorem index1_4 : ∀ t : Fin cfg1.grid.N, win1_4.index t = ![t.val, 0, 0] := by decide +kernel
theorem index1_5 : ∀ t : Fin cfg1.grid.N, win1_5.index t = ![t.val, 0, 0] := by decide +kernel
theorem index1_6 : ∀ t : Fin cfg1.grid.N, win1_6.index t = ![t.val, 0, 0] := by decide +kernel

theorem ix3_of {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c := by
  rw [eq_ix3 f]
  exact congr (congrArg₂ ix3 (Fin.ext h0) (Fin.ext h1)) (Fin.ext h2)

section Blocks
variable (c : Dev nD) (t : Fin cfg1.N) (t' : Fin 2) (ht : t.val = t'.val) (p : Fin 1) (q : Fin 4) (u : Fin 1) (j : Fin 1024)
include ht

theorem emb1_0 : ((cfg1.win 0).blk t).view.emb (ix3 p q j) = (ix3 t' q j : S2x4x1024.Idx) :=
  ix3_of _ _ _ _ (by blk_simp [index1_0]; exact ht) (by blk_simp [index1_0]) (by blk_simp [index1_0])
theorem emb1_1 : ((cfg1.win 1).blk t).view.emb (ix3 p q j) = (ix3 t' q j : S2x4x1024.Idx) :=
  ix3_of _ _ _ _ (by blk_simp [index1_1]; exact ht) (by blk_simp [index1_1]) (by blk_simp [index1_1])
theorem emb1_2 : ((cfg1.win 2).blk t).view.emb (ix3 p u j) = (ix3 t' u j : S2x1x1024.Idx) :=
  ix3_of _ _ _ _ (by blk_simp [index1_2]; exact ht) (by blk_simp [index1_2]) (by blk_simp [index1_2])
theorem emb1_3 : ((cfg1.win 3).blk t).view.emb (ix3 p u j) = (ix3 t' u j : S2x1x1024.Idx) :=
  ix3_of _ _ _ _ (by blk_simp [index1_3]; exact ht) (by blk_simp [index1_3]) (by blk_simp [index1_3])
theorem emb1_4 : ((cfg1.win 4).blk t).view.emb (ix3 p q j) = (ix3 t' q j : S2x4x1024.Idx) :=
  ix3_of _ _ _ _ (by blk_simp [index1_4]; exact ht) (by blk_simp [index1_4]) (by blk_simp [index1_4])
theorem emb1_5 : ((cfg1.win 5).blk t).view.emb (ix3 p u j) = (ix3 t' u j : S2x1x1024.Idx) :=
  ix3_of _ _ _ _ (by blk_simp [index1_5]; exact ht) (by blk_simp [index1_5]) (by blk_simp [index1_5])
theorem emb1_6 : ((cfg1.win 6).blk t).view.emb (ix3 p u j) = (ix3 t' u j : S2x1x1024.Idx) :=
  ix3_of _ _ _ _ (by blk_simp [index1_6]; exact ht) (by blk_simp [index1_6]) (by blk_simp [index1_6])

theorem block1_0 : iblk1 V c 0 t = image4 (V c main_v20) t' := funext fun y =>
  (congrArg (iblk1 V c 0 t) (eq_ix3 (n0 := 1) (n1 := 4) (n2 := 1024) y)).trans (congrArg (V c (Pipeline.arrRef spec1 0)) (emb1_0 t t' ht _ _ _))
theorem block1_1 : iblk1 V c 1 t = image4 (V c main_v22) t' := funext fun y =>
  (congrArg (iblk1 V c 1 t) (eq_ix3 (n0 := 1) (n1 := 4) (n2 := 1024) y)).trans (congrArg (V c (Pipeline.arrRef spec1 1)) (emb1_1 t t' ht _ _ _))
theorem block1_2 : iblk1 V c 2 t = image1 (V c main_v24) t' := funext fun y =>
  (congrArg (iblk1 V c 2 t) (eq_ix3 (n0 := 1) (n1 := 1) (n2 := 1024) y)).trans (congrArg (V c (Pipeline.arrRef spec1 2)) (emb1_2 t t' ht _ _ _))
theorem block1_3 : iblk1 V c 3 t = image1 (V c main_v27) t' := funext fun y =>
  (congrArg (iblk1 V c 3 t) (eq_ix3 (n0 := 1) (n1 := 1) (n2 := 1024) y)).trans (congrArg (V c (Pipeline.arrRef spec1 3)) (emb1_3 t t' ht _ _ _))
end Blocks

/-- The point of an image. -/
def imageOf (t : Fin cfg1.N) : Fin 2 := ⟨t.val, by have := t.2; exact lt_of_lt_of_eq this (by decide)⟩

theorem only4 (y : S1x4x1024.Idx) : y = ix3 0 (y 1) (y 2) := ix3_of y 0 (y 1) (y 2) (Nat.lt_one_iff.mp (y 0).2) rfl rfl
theorem only1 (y : S1x1x1024.Idx) : y = ix3 0 (y 1) (y 2) := ix3_of y 0 (y 1) (y 2) (Nat.lt_one_iff.mp (y 0).2) rfl rfl

/-- What the second launch leaves in its three arrays, image by image. -/
def boxes (c : Dev nD) : S2x4x1024.Idx → EReal := fun i =>
  out1_4 (image4 (V c main_v20) (i 0)) (image4 (V c main_v22) (i 0)) (ix3 0 (i 1) (i 2))
def valids (c : Dev nD) : S2x1x1024.Idx → EReal := fun i =>
  out1_5 (image4 (V c main_v20) (i 0)) (image4 (V c main_v22) (i 0)) (image1 (V c main_v24) (i 0)) (ix3 0 (i 1) (i 2))
def keeps (c : Dev nD) : S2x1x1024.Idx → EReal := fun i =>
  out1_6 (image4 (V c main_v20) (i 0)) (image4 (V c main_v22) (i 0)) (image1 (V c main_v24) (i 0)) (image1 (V c main_v27) (i 0)) (ix3 0 (i 1) (i 2))

theorem arr1_4 (c : Dev nD) : (dat1 V c).arrAt 4 cfg1.N = boxes V c := by
  refine (dat1 V c).arrAt_eq_of_covers 4 _ (by decide +kernel) fun t hf y => ?_
  blk_simp
  rw [after1_4, block1_0 V c t (imageOf t) rfl, block1_1 V c t (imageOf t) rfl]
  refine Eq.trans ?_ (congrArg (boxes V c) ((congrArg ((win1_4.blk t).view.emb) (only4 y)).trans (emb1_4 t (imageOf t) rfl 0 (y 1) (y 2)))).symm
  exact congrArg (out1_4 (image4 (V c main_v20) (imageOf t)) (image4 (V c main_v22) (imageOf t))) (only4 y)
theorem arr1_5 (c : Dev nD) : (dat1 V c).arrAt 5 cfg1.N = valids V c := by
  refine (dat1 V c).arrAt_eq_of_covers 5 _ (by decide +kernel) fun t hf y => ?_
  blk_simp
  rw [after1_5, block1_0 V c t (imageOf t) rfl, block1_1 V c t (imageOf t) rfl, block1_2 V c t (imageOf t) rfl]
  refine Eq.trans ?_ (congrArg (valids V c) ((congrArg ((win1_5.blk t).view.emb) (only1 y)).trans (emb1_5 t (imageOf t) rfl 0 (y 1) (y 2)))).symm
  exact congrArg (out1_5 (image4 (V c main_v20) (imageOf t)) (image4 (V c main_v22) (imageOf t)) (image1 (V c main_v24) (imageOf t))) (only1 y)
theorem arr1_6 (c : Dev nD) : (dat1 V c).arrAt 6 cfg1.N = keeps V c := by
  refine (dat1 V c).arrAt_eq_of_covers 6 _ (by decide +kernel) fun t hf y => ?_
  blk_simp
  rw [after1_6, block1_0 V c t (imageOf t) rfl, block1_1 V c t (imageOf t) rfl, block1_2 V c t (imageOf t) rfl, block1_3 V c t (imageOf t) rfl]
  refine Eq.trans ?_ (congrArg (keeps V c) ((congrArg ((win1_6.blk t).view.emb) (only1 y)).trans (emb1_6 t (imageOf t) rfl 0 (y 1) (y 2)))).symm
  exact congrArg (out1_6 (image4 (V c main_v20) (imageOf t)) (image4 (V c main_v22) (imageOf t)) (image1 (V c main_v24) (imageOf t)) (image1 (V c main_v27) (imageOf t))) (only1 y)

theorem sides (x0 x1 : Vec Ideal S1x4x1024 .f32) (j : Fin 1024) :
    boxAt (bx1 x0 x1) (by1 x0 x1) (bx2 x0 x1) (by2 x0 x1) j = dec (fun c => x0 (ix3 0 c j)) (fun c => x1 (ix3 0 c j)) := by
  funext c
  obtain rfl | rfl | rfl | rfl : c = 0 ∨ c = 1 ∨ c = 2 ∨ c = 3 := by fin_cases c <;> simp
  · show bx1 x0 x1 (ix2 0 j) = _
    unfold bx1 k1_pay30 k1_pay28 k1_pay26 k1_pay24 k1_pay22 k1_pay20 k1_pay19 k1_pay18
    pointwise
    rfl
  · show by1 x0 x1 (ix2 0 j) = _
    unfold by1 k1_pay31 k1_pay29 k1_pay27 k1_pay25 k1_pay23 k1_pay21 k1_pay19 k1_pay18
    pointwise
    rfl
  · show bx2 x0 x1 (ix2 0 j) = _
    unfold bx2 k1_pay32 k1_pay28 k1_pay26 k1_pay24 k1_pay22 k1_pay20 k1_pay19 k1_pay18
    pointwise
    rfl
  · show by2 x0 x1 (ix2 0 j) = _
    unfold by2 k1_pay33 k1_pay29 k1_pay27 k1_pay25 k1_pay23 k1_pay21 k1_pay19 k1_pay18
    pointwise
    rfl

theorem row_cast (v : FVec Ideal S1x1024 .f32) (p q : Fin 1) (j : Fin 1024) :
    shapeCast S1x1x1024 v shapeCasts_S1x1024_S1x1x1024 (ix3 p q j) = v (ix2 0 j) := by
  pointwise

/-- One row of the decoded boxes, put into the block at its side. -/
theorem row_piece {x0 x1 : Vec Ideal S1x4x1024 .f32} (v : FVec Ideal S1x1024 .f32) (c : Fin 4) (emb : S1x1x1024.Idx → S1x4x1024.Idx)
    (hv : ∀ j, v (ix2 0 j) = boxAt (bx1 x0 x1) (by1 x0 x1) (bx2 x0 x1) (by2 x0 x1) j c)
    (h1 : ∀ y, (emb y 1).val = c.val) (h2 : ∀ y, (emb y 2).val = (y 2).val) (y : S1x1x1024.Idx) :
    shapeCast S1x1x1024 v shapeCasts_S1x1024_S1x1x1024 y
      = boxAt (bx1 x0 x1) (by1 x0 x1) (bx2 x0 x1) (by2 x0 x1) (emb y 2) (emb y 1) := by
  refine (congrArg (shapeCast S1x1x1024 v shapeCasts_S1x1024_S1x1x1024) (only1 y)).trans ((row_cast v 0 (y 1) (y 2)).trans ((hv _).trans ?_))
  exact congrArg₂ (boxAt (bx1 x0 x1) (by1 x0 x1) (bx2 x0 x1) (by2 x0 x1)) (Fin.ext (h2 _).symm) (Fin.ext (h1 _).symm)

theorem out4_at (x0 x1 : Vec Ideal S1x4x1024 .f32) (c : Fin 4) (j : Fin 1024) :
    out1_4 x0 x1 (ix3 0 c j) = dec (fun c => x0 (ix3 0 c j)) (fun c => x1 (ix3 0 c j)) c := by
  rw [← sides]
  unfold out1_4
  let G : S1x4x1024.Idx → Elt Ideal EltTy.f32 := fun y => boxAt (bx1 x0 x1) (by1 x0 x1) (bx2 x0 x1) (by2 x0 x1) (y 2) (y 1)
  refine View.canon_apply_of_pieces G _ ?_ (ix3 0 c j) (cover1_4 _ _ _ _ _)
  intro p hp x
  simp only [List.mem_cons, List.not_mem_nil, or_false] at hp
  rcases hp with rfl | rfl | rfl | rfl
  · exact row_piece (x0 := x0) (x1 := x1) (k1_pay33 (k1_pay27 (View.ld x0 r1_0) (View.ld x1 r1_0)) (k1_pay29 (View.ld x0 r1_0) (View.ld x1 r1_0))) 3 r1_4.emb
      (fun _ => rfl) (fun y => by blk_simp [r1_4] <;> rfl) (fun y => by blk_simp [r1_4]) x
  · exact row_piece (x0 := x0) (x1 := x1) (k1_pay32 (k1_pay26 (View.ld x0 r1_0) (View.ld x1 r1_0)) (k1_pay28 (View.ld x0 r1_0) (View.ld x1 r1_0))) 2 r1_3.emb
      (fun _ => rfl) (fun y => by blk_simp [r1_3] <;> rfl) (fun y => by blk_simp [r1_3]) x
  · exact row_piece (x0 := x0) (x1 := x1) (by1 x0 x1) 1 r1_2.emb
      (fun _ => rfl) (fun y => by blk_simp [r1_2] <;> rfl) (fun y => by blk_simp [r1_2]) x
  · exact row_piece (x0 := x0) (x1 := x1) (bx1 x0 x1) 0 r1_1.emb
      (fun _ => rfl) (fun y => by blk_simp [r1_1] <;> rfl) (fun y => by blk_simp [r1_1]) x

theorem out5_at (x0 x1 : Vec Ideal S1x4x1024 .f32) (x2 : Vec Ideal S1x1x1024 .f32) (j : Fin 1024) :
    out1_5 x0 x1 x2 (ix3 0 0 j) = FloatOps.sitofp (F := Ideal) FTy.f32 (BitVec.setWidth 32
      (fit (x2 (ix3 0 0 j)) (dec (fun c => x0 (ix3 0 c j)) (fun c => x1 (ix3 0 c j))))) := by
  rw [← sides, ← fit_at]
  unfold out1_5
  frame_out
  unfold k1_pay6 k1_pay5
  pointwise

theorem out6_at (x0 x1 : Vec Ideal S1x4x1024 .f32) (x2 x3 : Vec Ideal S1x1x1024 .f32) (j : Fin 1024) :
    out1_6 x0 x1 x2 x3 (ix3 0 0 j) = kept x0 x1 x2 x3 (ix2 0 j) := by
  unfold out1_6
  frame_out
  unfold k1_pay10
  pointwise
-- ==== Proof.KerPre.lean ====
/- What the second launch is given: the candidates' anchors, regressions, scores and labels, padded, from the launch contents. -/
module
public import proofs.«01_k».proof.Proof.KernelRun
public import proofs.«01_k».proof.Proof.Gathers
public import proofs.«01_k».proof.Proof.Sorts
public import proofs.«01_k».proof.Proof.Spec
public import Idealize.ShloMosaic.Lib.StableHlo.ReadAt
public import Idealize.ShloMosaic.Lib.Pointwise
@[expose] public section
set_option maxRecDepth 16384
noncomputable section
namespace Cert.KernelIdeal.Pre
open Cert.KernelIdeal Cert.KernelIdeal.Gen
open Idealize.ShloMosaic Idealize.ShloMosaic.TcCoe Idealize.ShloMosaic.StableHlo
open Idealize.SL.Sem
open Cert.Spec Cert.Boxes

/-! ## A gather that checks its rows -/

theorem fold_one {n : Nat} (f : Fin n → BitVec 1) (h : ∀ x, f x = 1#1) : Finset.fold IntOp.andi (1#1) f Finset.univ = 1#1 := by
  obtain rfl : f = fun _ => 1#1 := funext h
  induction (Finset.univ : Finset (Fin n)) using Finset.induction_on with
  | empty => rfl
  | insert a s ha ih => rw [Finset.fold_insert ha, ih]; rfl

theorem inside (w m hi : BitVec 32) (n : Nat) (h : w.toInt = n) (hn : (n : Int) ≤ hi.toInt) :
    IntOp.andi (IntOp.cmpi .sge (Scalar.select (IntOp.cmpi .slt w 0#32) (IntOp.addi w m) w) 0#32)
      (IntOp.cmpi .sle (Scalar.select (IntOp.cmpi .slt w 0#32) (IntOp.addi w m) w) hi) = 1#1 := by
  rw [Gathers.wrap_of_nonneg w m n h]
  have h1 : IntOp.cmpi .sge w 0#32 = 1#1 := by
    have : (0 : Int) ≤ w.toInt := by omega
    simp [IntOp.cmpi, BitVec.sle, this]
  have h2 : IntOp.cmpi .sle w hi = 1#1 := by
    have : w.toInt ≤ hi.toInt := by omega
    simp [IntOp.cmpi, BitVec.sle, this]
  rw [h1, h2]
  rfl

/-- A checked row is the row. -/
theorem checked {α : Type} {n : Nat} (f : Fin n → BitVec 1) (h : ∀ x, f x = 1#1) (a b g : α) (ha : a = g) :
    Scalar.select (Finset.fold IntOp.andi (1#1) f Finset.univ) a b = g := by
  rw [fold_one f h, ha]
  rfl

/-! ## The stretches -/

variable (V : Valuation τ sig (Elt Ideal)) (I : Inputs)

def pA : Valuation τ sig (Elt Ideal) := after hostOps0 V
def pB : Valuation τ sig (Elt Ideal) := after hostOps1_4 (after hostOps1_3 (after hostOps1_2 (after hostOps1_1 (after hostOps1 V))))
def pC : Valuation τ sig (Elt Ideal) := after hostOps1_8 (after hostOps1_7 (after hostOps1_6 (after hostOps1_5 V)))
def pD : Valuation τ sig (Elt Ideal) := after hostOps1_13 (after hostOps1_12 (after hostOps1_11 (after hostOps1_10 (after hostOps1_9 V))))

/-- The inputs, from a valuation. -/
def inp : Inputs := ofArrays (V main_arg0 : S2x4x100x200.Idx → EReal) (V main_arg1 : S2x1x100x200.Idx → EReal)
  (V main_arg2 : S20000x4.Idx → EReal) (V main_arg4 : S2x20000x256.Idx → EReal)

/-- A location of an image, among all. -/
def row (b : Fin 2) (n : Fin 20000) : Fin 40000 := ⟨b.val * 20000 + n.val, by omega⟩

theorem A_v0 (b : Fin 2) (n : Fin 20000) (k : Fin 80) :
    (pA V main_v0 : S40000x256.Idx → EReal) (ix2 (row b n) ⟨k.val, by omega⟩) = (inp V).cls b n k := by
  unfold pA
  after_reads_at
  refine congrArg (V (Proc.tc.devRef main_arg4) : S2x20000x256.Idx → EReal) ?_
  have hb := b.2
  have hn := n.2
  congr 1 <;> refine Fin.ext ?_ <;> simp [row] <;> omega
theorem A_v1 (b : Fin 2) (n : Fin 20000) : (pA V main_v1 : S40000x1.Idx → EReal) (ix2 (row b n) 0) = (inp V).ctr b n := by
  unfold pA
  after_reads_at
  refine congrArg (V (Proc.tc.devRef main_arg1) : S2x1x100x200.Idx → EReal) ?_
  have hb := b.2
  have hn := n.2
  congr 1 <;> refine Fin.ext ?_ <;> simp [row] <;> omega

section B
theorem idx_of (x : S2x1600000.Idx → EReal) (b : Fin 2) (k : Fin 1000) (hx : ∀ b n, x (ix2 b n) = msk I b n) :
    (Host.topK S2x1000 1 (FloatOps.cmpfTotal (F := Ideal) (φ := .f32) CmpDirection.gt) x sliceFits_S2x1600000_S2x1000).2 (ix2 b k)
      = BitVec.ofNat 32 (pos I b k).val := by
  refine (Sorts.topK_idx x sliceFits_S2x1600000_S2x1000 b k (by omega)).trans ?_
  rw [show (fun n => x (ix2 b n)) = msk I b from funext fun n => hx b n]
  rfl
theorem val_of (x : S2x1600000.Idx → EReal) (b : Fin 2) (k : Fin 1000) (hx : ∀ b n, x (ix2 b n) = msk I b n) :
    (Host.topK S2x1000 1 (FloatOps.cmpfTotal (F := Ideal) (φ := .f32) CmpDirection.gt) x sliceFits_S2x1600000_S2x1000).1 (ix2 b k)
      = tv I b k := by
  refine (Sorts.topK_val x sliceFits_S2x1600000_S2x1000 b k (by omega)).trans ?_
  rw [show (fun n => x (ix2 b n)) = msk I b from funext fun n => hx b n, hx]
  rfl

variable (h2 : ∀ b n, (V main_v2 : S40000x80.Idx → EReal) (ix2 (row b (at80 n)) (in80 n)) = msk I b n)
include h2

theorem B_values (b : Fin 2) (k : Fin 1000) : (pB V main_values : S2x1000.Idx → EReal) (ix2 b k) = tv I b k := by
  unfold pB
  after_reads_at
  exact val_of I _ b k fun b n => h2 b n
theorem B_v4 (b : Fin 2) (k : Fin 1000) : (pB V main_v4 : S2x1000.Idx → BitVec 32) (ix2 b k) = quotW (BitVec.ofNat 32 (pos I b k).val) := by
  unfold pB
  after_reads_at
  rw [idx_of I _ b k fun b n => h2 b n]
  rfl
theorem B_v10 (b : Fin 2) (k : Fin 1000) (x : Fin 1) : (pB V main_v10 : S2x1000x1.Idx → BitVec 32) (ix3 b k x)
    = quotW (BitVec.ofNat 32 (pos I b k).val) := by
  unfold pB
  after_reads_at
  rw [idx_of I _ b k fun b n => h2 b n]
  rfl
theorem B_v7 (b : Fin 2) (k : Fin 1000) : (pB V main_v7 : S2x1000.Idx → BitVec 32) (ix2 b k) = lab I b k := by
  unfold pB
  after_reads_at
  rw [idx_of I _ b k fun b n => h2 b n]
  rfl
end B
theorem B_v9 (b : Fin 2) (n : Fin 20000) (c : Fin 4) : (pB V main_v9 : S2x20000x4.Idx → EReal) (ix3 b n c) = (inp V).reg b n c := by
  unfold pB
  after_reads_at
  rfl
theorem B_arg2 : pB V main_arg2 = V main_arg2 := by unfold pB; after_reads_simp

section C
variable (h10 : ∀ b k (x : Fin 1), ((V main_v10 : S2x1000x1.Idx → BitVec 32) (ix3 b k x)).toInt = (loc I b k).val)
  (h4 : ∀ b k, ((V main_v4 : S2x1000.Idx → BitVec 32) (ix2 b k)).toInt = (loc I b k).val)
  (h9 : ∀ b n c, (V main_v9 : S2x20000x4.Idx → EReal) (ix3 b n c) = I.reg b n c)
  (h2 : ∀ n c, (V main_arg2 : S20000x4.Idx → EReal) (ix2 n c) = I.anc n c)

theorem below (n : Fin 20000) : ((n.val : Nat) : Int) ≤ (19999#32 : BitVec 32).toInt := by
  have : (19999#32 : BitVec 32).toInt = 19999 := by decide
  omega

include h10 h9 in
theorem C_v21 (b : Fin 2) (c : Fin 4) (k : Fin 1000) : (pC V main_v21 : S2x4x1000.Idx → EReal) (ix3 b c k) = I.reg b (loc I b k) c := by
  unfold pC
  after_reads_at
  refine checked _ (fun x => inside _ _ _ _ (h10 b k x) (below _)) _ _ _ ?_
  refine (Gathers.batchRows_apply gather_S2x20000x4_S2x1000x1_S2x1000x4_2_1_0_0_1_2_114_wf _ _ b k c (loc I b k) ?_).trans (h9 b _ c)
  refine Eq.trans (congrArg BitVec.toInt ?_) (h10 b k 0)
  pointwise
  exact Gathers.wrap_of_nonneg _ _ _ (h10 b k 0)
include h4 h2 in
theorem C_v20 (b : Fin 2) (c : Fin 4) (k : Fin 1000) : (pC V main_v20 : S2x4x1024.Idx → EReal) (ix3 b c ⟨k.val, by omega⟩) = I.anc (loc I b k) c := by
  unfold pC
  after_reads_at
  refine (Gathers.tableRows_apply gather_S20000x4_S2x1000x1_S2x1000x4_2_0_n_n_0_2_14_wf _ _ b k c (loc I b k) ?_).trans (h2 _ c)
  refine Eq.trans (congrArg BitVec.toInt ?_) (h4 b k)
  pointwise
  exact Gathers.wrap_of_nonneg _ _ _ (h4 b k)
end C
theorem C_values : pC V main_values = V main_values := by unfold pC; after_reads_simp
theorem C_v7 : pC V main_v7 = V main_v7 := by unfold pC; after_reads_simp

theorem D_v20 : pD V main_v20 = V main_v20 := by unfold pD; after_reads_simp
theorem D_v22 (b : Fin 2) (c : Fin 4) (k : Fin 1000) : (pD V main_v22 : S2x4x1024.Idx → EReal) (ix3 b c ⟨k.val, by omega⟩)
    = (V main_v21 : S2x4x1000.Idx → EReal) (ix3 b c k) := by
  unfold pD
  after_reads_at
theorem D_v24 (b : Fin 2) (k : Fin 1000) : (pD V main_v24 : S2x1x1024.Idx → EReal) (ix3 b 0 ⟨k.val, by omega⟩)
    = (V main_values : S2x1000.Idx → EReal) (ix2 b k) := by
  unfold pD
  after_reads_at
theorem D_v27 (b : Fin 2) (k : Fin 1000) : (pD V main_v27 : S2x1x1024.Idx → EReal) (ix3 b 0 ⟨k.val, by omega⟩)
    = ((((V main_v7 : S2x1000.Idx → BitVec 32) (ix2 b k)).toInt : ℝ) : EReal) := by
  unfold pD
  after_reads_at
  rfl
theorem D_values : pD V main_values = V main_values := by unfold pD; after_reads_simp
theorem D_v7 : pD V main_v7 = V main_v7 := by unfold pD; after_reads_simp

end Cert.KernelIdeal.Pre
end
-- ==== Proof.KerPost.lean ====
/- What the host computes after the second launch: the results of the kernel's program, from the boxes, marks and survivors the launch leaves. -/
module
public import proofs.«01_k».proof.Proof.KerPre
public import proofs.«01_k».proof.Proof.KerTrip
@[expose] public section
set_option maxRecDepth 16384
noncomputable section
namespace Cert.KernelIdeal.Post
open Cert.KernelIdeal Cert.KernelIdeal.Gen
open Idealize.ShloMosaic Idealize.ShloMosaic.TcCoe Idealize.ShloMosaic.StableHlo
open Idealize.SL.Sem
open Cert.Spec Cert.Boxes
open Cert.KernelIdeal.Pre (checked inside)
open Cert.KernelIdeal.Body (lane)

variable (V : Valuation τ sig (Elt Ideal)) (I : Inputs)

def qA : Valuation τ sig (Elt Ideal) := after hostOps2_2 (after hostOps2_1 (after hostOps2 V))
def qS : Valuation τ sig (Elt Ideal) := after hostOps2_3 V
def qB : Valuation τ sig (Elt Ideal) := after hostOps2_11 (after hostOps2_10 (after hostOps2_9 (after hostOps2_8 (after hostOps2_7 (after hostOps2_6
  (after hostOps2_5 (after hostOps2_4 V)))))))
def qT : Valuation τ sig (Elt Ideal) := after hostOps2_12 V
def qC : Valuation τ sig (Elt Ideal) := after hostOps2_19 (after hostOps2_18 (after hostOps2_17 (after hostOps2_16 (after hostOps2_15 (after hostOps2_14
  (after hostOps2_13 V))))))

/-- A bit written as a number is positive exactly when it is set. -/
theorem bit_back (w : BitVec 1) : BitVec.ofBool (decide ((0 : EReal) < FloatOps.sitofp (F := Ideal) FTy.f32 (BitVec.setWidth 32 w))) = w := by
  have h : FloatOps.sitofp (F := Ideal) FTy.f32 (BitVec.setWidth 32 w) = (((BitVec.setWidth 32 w).toInt : ℝ) : EReal) := rfl
  rw [h]
  rcases bit_cases w with rfl | rfl
  · have : ((BitVec.setWidth 32 (1#1)).toInt) = 1 := by decide
    rw [this]; simp
  · have : ((BitVec.setWidth 32 (0#1)).toInt) = 0 := by decide
    rw [this]; simp

theorem if_select {α : Type} (p : Prop) [Decidable p] (w : BitVec 1) (a b : α) (h : BitVec.ofBool (decide p) = w) :
    (if p then a else b) = Scalar.select w a b := by
  subst h
  by_cases hp : p <;> simp [hp, Scalar.select]

section A
variable (h0 : ∀ b c (k : Fin 1000), (V main_v28_0 : S2x4x1024.Idx → EReal) (ix3 b c (lane k)) = box I b k c)
  (h1 : ∀ b (k : Fin 1000), (V main_v28_1 : S2x1x1024.Idx → EReal) (ix3 b 0 (lane k))
    = FloatOps.sitofp (F := Ideal) FTy.f32 (BitVec.setWidth 32 (vbit I b k)))
  (h2 : ∀ b (k : Fin 1000), (V main_v28_2 : S2x1x1024.Idx → EReal) (ix3 b 0 (lane k))
    = open Classical in if Order.keepAt (supK I b) 1000 k.val then (1 : EReal) else 0)
  (hv : ∀ b k, (V main_values : S2x1000.Idx → EReal) (ix2 b k) = tv I b k)

include h0 in
theorem A_v30 (b : Fin 2) (k : Fin 1000) (c : Fin 4) : (qA V main_v30 : S2x1000x4.Idx → EReal) (ix3 b k c) = box I b k c := by
  unfold qA
  after_reads_at
  exact h0 b c k
include h1 in
theorem A_v34 (b : Fin 2) (k : Fin 1000) : (qA V main_v34 : S2x1000.Idx → BitVec 1) (ix2 b k) = vbit I b k := by
  unfold qA
  after_reads_at
  unfold lane at h1
  rw [h1]
  exact bit_back _
include h2 in
theorem A_v38 (b : Fin 2) (k : Fin 1000) : (qA V main_v38 : S2x1000.Idx → BitVec 1) (ix2 b k)
    = open Classical in BitVec.ofBool (decide (Order.keepAt (supK I b) 1000 k.val)) := by
  unfold qA
  after_reads_at
  unfold lane at h2
  rw [h2]
  by_cases h : Order.keepAt (supK I b) 1000 k.val <;> simp [h]
include h1 hv in
theorem A_v42 (b : Fin 2) (k : Fin 1000) : (qA V main_v42 : S2x1000.Idx → EReal) (ix2 b k) = sc I b k := by
  unfold qA
  after_reads_at
  unfold lane at h1
  rw [h1, hv]
  exact if_select _ _ _ _ (bit_back _)
include h1 hv in
theorem A_v43 (b : Fin 2) (k : Fin 1000) : (qA V main_v43 : S2x1000.Idx → EReal) (ix2 b k) = -(sc I b k) := by
  unfold qA
  after_reads_at
  unfold lane at h1
  rw [h1, hv]
  exact congrArg Neg.neg (if_select _ _ _ _ (bit_back _))
end A
theorem A_v7 : qA V main_v7 = V main_v7 := by unfold qA; after_reads_simp

theorem S_v44 (h43 : ∀ b k, (V main_v43 : S2x1000.Idx → EReal) (ix2 b k) = -(sc I b k)) (b : Fin 2) (k : Fin 1000) :
    (qS V main_v44 : S2x1000.Idx → BitVec 32) (ix2 b k) = BitVec.ofNat 32 (ord I b k).val := by
  unfold qS
  after_reads_at
  refine (Sorts.sort2_idx _ _ _ Sorts.cmp_ker (fun b n => ?_) b k).trans ?_
  · pointwise
  · exact congrArg (fun r : Fin 1000 → EReal => BitVec.ofNat 32 (Sorts.upOrder r k).val) (funext fun n => h43 b n)
theorem S_v7 : qS V main_v7 = V main_v7 := by unfold qS; after_reads_simp
theorem S_v30 : qS V main_v30 = V main_v30 := by unfold qS; after_reads_simp
theorem S_v34 : qS V main_v34 = V main_v34 := by unfold qS; after_reads_simp
theorem S_v38 : qS V main_v38 = V main_v38 := by unfold qS; after_reads_simp
theorem S_v42 : qS V main_v42 = V main_v42 := by unfold qS; after_reads_simp

theorem below (n : Fin 1000) : ((n.val : Nat) : Int) ≤ (999#32 : BitVec 32).toInt := by
  have : (999#32 : BitVec 32).toInt = 999 := by decide
  omega

section B
variable (h44 : ∀ b k, (V main_v44 : S2x1000.Idx → BitVec 32) (ix2 b k) = BitVec.ofNat 32 (ord I b k).val)
  (h30 : ∀ b k c, (V main_v30 : S2x1000x4.Idx → EReal) (ix3 b k c) = box I b k c)
  (h7 : ∀ b k, (V main_v7 : S2x1000.Idx → BitVec 32) (ix2 b k) = lab I b k)
  (h42 : ∀ b k, (V main_v42 : S2x1000.Idx → EReal) (ix2 b k) = sc I b k)
  (h34 : ∀ b k, (V main_v34 : S2x1000.Idx → BitVec 1) (ix2 b k) = vbit I b k)
  (h38 : ∀ b k, (V main_v38 : S2x1000.Idx → BitVec 1) (ix2 b k) = open Classical in BitVec.ofBool (decide (Order.keepAt (supK I b) 1000 k.val)))

include h44
theorem ord_int (b : Fin 2) (k : Fin 1000) : ((V main_v44 : S2x1000.Idx → BitVec 32) (ix2 b k)).toInt = (ord I b k).val := by
  rw [h44]; exact Gathers.toInt_ofNat _ (by omega)

include h30 in
theorem B_v47 (b : Fin 2) (k : Fin 1000) (c : Fin 4) : (qB V main_v47 : S2x1000x4.Idx → EReal) (ix3 b k c) = box I b (ord I b k) c := by
  unfold qB
  after_reads_at
  refine checked _ (fun x => inside _ _ _ _ (ord_int V I h44 b k) (below _)) _ _ _ ?_
  refine (Gathers.batchRows_apply gather_S2x1000x4_S2x1000x1_S2x1000x4_2_1_0_0_1_2_114_wf _ _ b k c (ord I b k) ?_).trans (h30 b _ c)
  refine Eq.trans (congrArg BitVec.toInt ?_) (ord_int V I h44 b k)
  pointwise
  exact Gathers.wrap_of_nonneg _ _ _ (ord_int V I h44 b k)
include h7 in
theorem B_v48 (b : Fin 2) (k : Fin 1000) : (qB V main_v48 : S2x1000.Idx → BitVec 32) (ix2 b k) = lab I b (ord I b k) := by
  unfold qB
  after_reads_at
  refine checked _ (fun x => inside _ _ _ _ (ord_int V I h44 b k) (below _)) _ _ _ ?_
  refine (Gathers.batchVec_apply gather_S2x1000_S2x1000x1_S2x1000_n_1_0_0_1_2_11_wf _ _ b k (ord I b k) ?_).trans (h7 b _)
  refine Eq.trans (congrArg BitVec.toInt ?_) (ord_int V I h44 b k)
  pointwise
  exact Gathers.wrap_of_nonneg _ _ _ (ord_int V I h44 b k)
include h42 h34 h38 in
theorem B_v51 (b : Fin 2) (k : Fin 1000) : (qB V main_v51 : S2x1000.Idx → EReal) (ix2 b k) = fin I b k := by
  unfold qB
  after_reads_at
  refine congrArg₂ (fun w s => Scalar.select w s minusOne) ?_ ?_
  · refine checked _ (fun x => inside _ _ _ _ (ord_int V I h44 b k) (below _)) _ _ _ ?_
    refine (Gathers.batchVec_apply gather_S2x1000_S2x1000x1_S2x1000_n_1_0_0_1_2_11_wf _ _ b k (ord I b k) ?_).trans
      (congrArg₂ IntOp.andi (h38 b _) (h34 b _))
    refine Eq.trans (congrArg BitVec.toInt ?_) (ord_int V I h44 b k)
    pointwise
    exact Gathers.wrap_of_nonneg _ _ _ (ord_int V I h44 b k)
  · refine checked _ (fun x => inside _ _ _ _ (ord_int V I h44 b k) (below _)) _ _ _ ?_
    refine (Gathers.batchVec_apply gather_S2x1000_S2x1000x1_S2x1000_n_1_0_0_1_2_11_wf _ _ b k (ord I b k) ?_).trans (h42 b _)
    refine Eq.trans (congrArg BitVec.toInt ?_) (ord_int V I h44 b k)
    pointwise
    exact Gathers.wrap_of_nonneg _ _ _ (ord_int V I h44 b k)
end B

section T
variable (h51 : ∀ b k, (V main_v51 : S2x1000.Idx → EReal) (ix2 b k) = fin I b k)
include h51
theorem fin_row (b : Fin 2) : (fun n => (V main_v51 : S2x1000.Idx → EReal) (ix2 b n)) = fin I b := funext fun n => h51 b n
theorem T_val (b : Fin 2) (h : Fin 100) : (qT V main_values_12 : S2x100.Idx → EReal) (ix2 b h) = fin I b (best I b h) := by
  unfold qT
  after_reads_at
  refine (Sorts.topK_val (V main_v51 : S2x1000.Idx → EReal) sliceFits_S2x1000_S2x100 b h (by omega)).trans ?_
  rw [fin_row V I h51, h51]
  rfl
theorem T_idx (b : Fin 2) (h : Fin 100) : (qT V main_indices_13 : S2x100.Idx → BitVec 32) (ix2 b h) = BitVec.ofNat 32 (best I b h).val := by
  unfold qT
  after_reads_at
  refine (Sorts.topK_idx (V main_v51 : S2x1000.Idx → EReal) sliceFits_S2x1000_S2x100 b h (by omega)).trans ?_
  rw [fin_row V I h51]
  rfl
theorem T_v52 (b : Fin 2) (h : Fin 100) (x : Fin 1) : (qT V main_v52 : S2x100x1.Idx → BitVec 32) (ix3 b h x) = BitVec.ofNat 32 (best I b h).val := by
  unfold qT
  after_reads_at
  refine (Sorts.topK_idx (V main_v51 : S2x1000.Idx → EReal) sliceFits_S2x1000_S2x100 b h (by omega)).trans ?_
  rw [fin_row V I h51]
  rfl
end T
theorem T_v47 : qT V main_v47 = V main_v47 := by unfold qT; after_reads_simp
theorem T_v48 : qT V main_v48 = V main_v48 := by unfold qT; after_reads_simp

section C
variable (hi : ∀ b h, (V main_indices_13 : S2x100.Idx → BitVec 32) (ix2 b h) = BitVec.ofNat 32 (best I b h).val)
  (h52 : ∀ b h (x : Fin 1), (V main_v52 : S2x100x1.Idx → BitVec 32) (ix3 b h x) = BitVec.ofNat 32 (best I b h).val)
  (hv : ∀ b h, (V main_values_12 : S2x100.Idx → EReal) (ix2 b h) = fin I b (best I b h))
  (h47 : ∀ b k c, (V main_v47 : S2x1000x4.Idx → EReal) (ix3 b k c) = box I b (ord I b k) c)
  (h48 : ∀ b k, (V main_v48 : S2x1000.Idx → BitVec 32) (ix2 b k) = lab I b (ord I b k))

theorem best_int (w : BitVec 32) (b : Fin 2) (h : Fin 100) (hw : w = BitVec.ofNat 32 (best I b h).val) : w.toInt = (best I b h).val := by
  rw [hw]; exact Gathers.toInt_ofNat _ (by omega)

include h52 h47 in
theorem C_v53 (b : Fin 2) (h : Fin 100) (c : Fin 4) : (qC V main_v53 : S2x100x4.Idx → EReal) (ix3 b h c) = outBox I b h c := by
  unfold qC
  after_reads_at
  refine checked _ (fun x => inside _ _ _ _ (best_int I _ b h (h52 b h x)) (below _)) _ _ _ ?_
  refine (Gathers.batchRows_apply gather_S2x1000x4_S2x100x1_S2x100x4_2_1_0_0_1_2_114_wf _ _ b h c (best I b h) ?_).trans (h47 b _ c)
  refine Eq.trans (congrArg BitVec.toInt ?_) (best_int I _ b h (h52 b h 0))
  pointwise
  exact Gathers.wrap_of_nonneg _ _ _ (best_int I _ b h (h52 b h 0))
include hi hv h48 in
theorem C_v57 (b : Fin 2) (h : Fin 100) : (qC V main_v57 : S2x100.Idx → BitVec 32) (ix2 b h) = outLab I b h := by
  unfold qC
  after_reads_at
  rw [hv]
  refine (if_select _ _ _ _ rfl).trans ?_
  refine congrArg (fun a => Scalar.select _ a 0#32) ?_
  refine checked _ (fun x => inside _ _ _ _ (best_int I _ b h (hi b h)) (below _)) _ _ _ ?_
  refine (Gathers.batchVec_apply gather_S2x1000_S2x100x1_S2x100_n_1_0_0_1_2_11_wf _ _ b h (best I b h) ?_).trans (h48 b _)
  refine Eq.trans (congrArg BitVec.toInt ?_) (best_int I _ b h (hi b h))
  pointwise
  exact Gathers.wrap_of_nonneg _ _ _ (best_int I _ b h (hi b h))
include hv in
theorem C_v58 (b : Fin 2) (h : Fin 100) : (qC V main_v58 : S2x100.Idx → EReal) (ix2 b h) = outSc I b h := by
  unfold qC
  after_reads_at
  rw [hv]
  exact congrArg (fun z : EReal => max z (fin I b (best I b h))) Ideal.ofBits_zero_f32
end C
end Cert.KernelIdeal.Post
end
-- ==== Proof.KerEnd.lean ====
/- The kernel's three results, from the launch contents. -/
module
public import proofs.«01_k».proof.Proof.KerScore
public import proofs.«01_k».proof.Proof.KerBoxes
public import proofs.«01_k».proof.Proof.KerPost
@[expose] public section
set_option maxRecDepth 16384
noncomputable section
namespace Cert.KernelIdeal.Ends
open Cert.KernelIdeal Cert.KernelIdeal.Gen Cert.KernelIdeal.Run Cert.KernelIdeal.Pre Cert.KernelIdeal.Post Cert.KernelIdeal.Body
open Idealize.ShloMosaic Idealize.ShloMosaic.TcCoe Idealize.ShloMosaic.StableHlo
open Idealize.SL.Sem
open Cert.Spec Cert.Boxes

variable (m : (ℓ : Loc nD τ sig) → Buf (Elt Ideal) ℓ) (c : Dev nD)

/-- The inputs as launched. -/
abbrev given : Inputs := Pre.inp (fun b => m (c, b))

/-! ## Before the second launch -/

theorem scored (b : Fin 2) (n : Fin 1600000) :
    (V2 m (outs m) c main_v2 : S40000x80.Idx → EReal) (ix2 (row b (at80 n)) (in80 n)) = msk (given m c) b n := by
  have e : V2 m (outs m) c main_v2 = scores (U1 m) c :=
    (Function.update_self _ _ _).trans ((outs_v2 m c).trans (arr0 (U1 m) c))
  rw [e]
  exact congrArg₂ score (Pre.A_v0 (V0 m c) b (at80 n) (in80 n)) (Pre.A_v1 (V0 m c) b (at80 n))

theorem kept_arg0 : V2 m (outs m) c main_arg0 = V0 m c main_arg0 :=
  (V2_of m (outs m) c main_arg0 (by decide)).trans (V1_of m c main_arg0 (by decide))
theorem kept_arg2 : V2 m (outs m) c main_arg2 = V0 m c main_arg2 :=
  (V2_of m (outs m) c main_arg2 (by decide)).trans (V1_of m c main_arg2 (by decide))

/-- The contents entering the parts of the host's work before the second launch. -/
abbrev eB : Valuation τ sig (Elt Ideal) := pB (V2 m (outs m) c)
abbrev eC : Valuation τ sig (Elt Ideal) := pC (eB m c)

theorem loc_v10 (b : Fin 2) (k : Fin 1000) (x : Fin 1) :
    ((eB m c main_v10 : S2x1000x1.Idx → BitVec 32) (ix3 b k x)).toInt = (loc (given m c) b k).val := by
  refine (congrArg BitVec.toInt (Pre.B_v10 _ _ (scored m c) b k x)).trans ?_
  exact quotW_toInt _ (pos (given m c) b k).2
theorem loc_v4 (b : Fin 2) (k : Fin 1000) : ((eB m c main_v4 : S2x1000.Idx → BitVec 32) (ix2 b k)).toInt = (loc (given m c) b k).val := by
  refine (congrArg BitVec.toInt (Pre.B_v4 _ _ (scored m c) b k)).trans ?_
  exact quotW_toInt _ (pos (given m c) b k).2
theorem reg_v9 (b : Fin 2) (n : Fin 20000) (x : Fin 4) : (eB m c main_v9 : S2x20000x4.Idx → EReal) (ix3 b n x) = (given m c).reg b n x := by
  refine (Pre.B_v9 (V2 m (outs m) c) b n x).trans ?_
  exact congrArg (fun a : S2x4x100x200.Idx → EReal => a (ix4 b x ⟨n.val / 200, by omega⟩ ⟨n.val % 200, by omega⟩)) (kept_arg0 m c)
theorem anc_arg2 (n : Fin 20000) (x : Fin 4) : (eB m c main_arg2 : S20000x4.Idx → EReal) (ix2 n x) = (given m c).anc n x :=
  congrArg (fun a : S20000x4.Idx → EReal => a (ix2 n x)) ((Pre.B_arg2 (V2 m (outs m) c)).trans (kept_arg2 m c))

theorem V16_eq : V16 m (outs m) c = pD (eC m c) := rfl

theorem in_v20 (b : Fin 2) (x : Fin 4) (k : Fin 1000) :
    (V16 m (outs m) c main_v20 : S2x4x1024.Idx → EReal) (ix3 b x (lane k)) = (given m c).anc (loc (given m c) b k) x := by
  rw [V16_eq, Pre.D_v20]
  exact Pre.C_v20 _ _ (loc_v4 m c) (anc_arg2 m c) b x k
theorem in_v22 (b : Fin 2) (x : Fin 4) (k : Fin 1000) :
    (V16 m (outs m) c main_v22 : S2x4x1024.Idx → EReal) (ix3 b x (lane k)) = (given m c).reg b (loc (given m c) b k) x := by
  rw [V16_eq]
  exact (Pre.D_v22 _ b x k).trans (Pre.C_v21 _ _ (loc_v10 m c) (reg_v9 m c) b x k)
theorem in_values (b : Fin 2) (k : Fin 1000) : (V16 m (outs m) c main_values : S2x1000.Idx → EReal) (ix2 b k) = tv (given m c) b k := by
  rw [V16_eq, Pre.D_values, eC, Pre.C_values]
  exact Pre.B_values _ _ (scored m c) b k
theorem in_v7 (b : Fin 2) (k : Fin 1000) : (V16 m (outs m) c main_v7 : S2x1000.Idx → BitVec 32) (ix2 b k) = lab (given m c) b k := by
  rw [V16_eq, Pre.D_v7, eC, Pre.C_v7]
  exact Pre.B_v7 _ _ (scored m c) b k
theorem in_v24 (b : Fin 2) (k : Fin 1000) :
    (V16 m (outs m) c main_v24 : S2x1x1024.Idx → EReal) (ix3 b 0 (lane k)) = tv (given m c) b k := by
  refine Eq.trans ?_ (in_values m c b k)
  rw [V16_eq, Pre.D_values]
  exact Pre.D_v24 _ b k
theorem in_v27 (b : Fin 2) (k : Fin 1000) :
    (V16 m (outs m) c main_v27 : S2x1x1024.Idx → EReal) (ix3 b 0 (lane k)) = (((lab (given m c) b k).toInt : ℝ) : EReal) := by
  refine Eq.trans ?_ (congrArg (fun w : BitVec 32 => ((w.toInt : ℝ) : EReal)) (in_v7 m c b k))
  rw [V16_eq, Pre.D_v7]
  exact Pre.D_v27 _ b k

/-! ## What the second launch leaves -/

/-- The boxes the launch decodes from the candidates' anchors and regressions. -/
theorem decoded (b : Fin 2) (k : Fin 1000) :
    dec (fun x => image4 (U16 m c main_v20) b (ix3 0 x (lane k))) (fun x => image4 (U16 m c main_v22) b (ix3 0 x (lane k)))
      = box (given m c) b k :=
  congrArg₂ dec (funext fun x => in_v20 m c b x k) (funext fun x => in_v22 m c b x k)

theorem out_boxes (b : Fin 2) (x : Fin 4) (k : Fin 1000) :
    (V17 m (outs m) c main_v28_0 : S2x4x1024.Idx → EReal) (ix3 b x (lane k)) = box (given m c) b k x := by
  rw [(V17_v28_0 m c).trans (arr1_4 (U16 m) c)]
  exact (out4_at _ _ x (lane k)).trans (congrFun (decoded m c b k) x)
theorem out_valids (b : Fin 2) (k : Fin 1000) :
    (V17 m (outs m) c main_v28_1 : S2x1x1024.Idx → EReal) (ix3 b 0 (lane k))
      = FloatOps.sitofp (F := Ideal) FTy.f32 (BitVec.setWidth 32 (vbit (given m c) b k)) := by
  rw [(V17_v28_1 m c).trans (arr1_5 (U16 m) c)]
  refine (out5_at _ _ _ (lane k)).trans ?_
  exact congrArg (fun w => FloatOps.sitofp (F := Ideal) FTy.f32 (BitVec.setWidth 32 w)) (congrArg₂ fit (in_v24 m c b k) (decoded m c b k))
theorem lane_read (x : Vec Ideal S1x1x1024 .f32) (j : Fin 1024) : View.ld x r1_5 (ix3 0 0 j) = x (ix3 0 0 j) := by
  pointwise
theorem out_keeps (b : Fin 2) (k : Fin 1000) :
    (V17 m (outs m) c main_v28_2 : S2x1x1024.Idx → EReal) (ix3 b 0 (lane k))
      = open Classical in if Order.keepAt (supK (given m c) b) 1000 k.val then (1 : EReal) else 0 := by
  rw [(V17_v28_2 m c).trans (arr1_6 (U16 m) c)]
  refine (out6_at _ _ _ _ (lane k)).trans ?_
  exact kept_at _ _ _ _ _ _ (given m c) b (fun j => (sides _ _ (lane j)).trans (decoded m c b j))
    (fun j => (lane_read _ (lane j)).trans (in_v24 m c b j)) (fun j => (lane_read _ (lane j)).trans (in_v27 m c b j)) k

theorem out_values (b : Fin 2) (k : Fin 1000) : (V17 m (outs m) c main_values : S2x1000.Idx → EReal) (ix2 b k) = tv (given m c) b k := by
  rw [V17_of m (outs m) c main_values (by decide)]; exact in_values m c b k
theorem out_v7 (b : Fin 2) (k : Fin 1000) : (V17 m (outs m) c main_v7 : S2x1000.Idx → BitVec 32) (ix2 b k) = lab (given m c) b k := by
  rw [V17_of m (outs m) c main_v7 (by decide)]; exact in_v7 m c b k

/-! ## The results -/

abbrev gA : Valuation τ sig (Elt Ideal) := qA (V17 m (outs m) c)
abbrev gS : Valuation τ sig (Elt Ideal) := qS (gA m c)
abbrev gB : Valuation τ sig (Elt Ideal) := qB (gS m c)
abbrev gT : Valuation τ sig (Elt Ideal) := qT (gB m c)
theorem V37_eq : V37 m (outs m) c = qC (gT m c) := rfl

theorem s_v44 (b : Fin 2) (k : Fin 1000) : (gS m c main_v44 : S2x1000.Idx → BitVec 32) (ix2 b k) = BitVec.ofNat 32 (ord (given m c) b k).val :=
  Post.S_v44 _ _ (Post.A_v43 _ _ (out_valids m c) (out_values m c)) b k
theorem s_v30 (b : Fin 2) (k : Fin 1000) (x : Fin 4) : (gS m c main_v30 : S2x1000x4.Idx → EReal) (ix3 b k x) = box (given m c) b k x := by
  rw [gS, Post.S_v30]; exact Post.A_v30 _ _ (out_boxes m c) b k x
theorem s_v7 (b : Fin 2) (k : Fin 1000) : (gS m c main_v7 : S2x1000.Idx → BitVec 32) (ix2 b k) = lab (given m c) b k := by
  rw [gS, Post.S_v7, gA, Post.A_v7]; exact out_v7 m c b k
theorem s_v42 (b : Fin 2) (k : Fin 1000) : (gS m c main_v42 : S2x1000.Idx → EReal) (ix2 b k) = sc (given m c) b k := by
  rw [gS, Post.S_v42]; exact Post.A_v42 _ _ (out_valids m c) (out_values m c) b k
theorem s_v34 (b : Fin 2) (k : Fin 1000) : (gS m c main_v34 : S2x1000.Idx → BitVec 1) (ix2 b k) = vbit (given m c) b k := by
  rw [gS, Post.S_v34]; exact Post.A_v34 _ _ (out_valids m c) b k
theorem s_v38 (b : Fin 2) (k : Fin 1000) : (gS m c main_v38 : S2x1000.Idx → BitVec 1) (ix2 b k)
    = open Classical in BitVec.ofBool (decide (Order.keepAt (supK (given m c) b) 1000 k.val)) := by
  rw [gS, Post.S_v38]; exact Post.A_v38 _ _ (out_keeps m c) b k

theorem b_v51 (b : Fin 2) (k : Fin 1000) : (gB m c main_v51 : S2x1000.Idx → EReal) (ix2 b k) = fin (given m c) b k :=
  Post.B_v51 _ _ (s_v44 m c) (s_v42 m c) (s_v34 m c) (s_v38 m c) b k
theorem t_v47 (b : Fin 2) (k : Fin 1000) (x : Fin 4) : (gT m c main_v47 : S2x1000x4.Idx → EReal) (ix3 b k x) = box (given m c) b (ord (given m c) b k) x := by
  rw [gT, Post.T_v47]; exact Post.B_v47 _ _ (s_v44 m c) (s_v30 m c) b k x
theorem t_v48 (b : Fin 2) (k : Fin 1000) : (gT m c main_v48 : S2x1000.Idx → BitVec 32) (ix2 b k) = lab (given m c) b (ord (given m c) b k) := by
  rw [gT, Post.T_v48]; exact Post.B_v48 _ _ (s_v44 m c) (s_v7 m c) b k

theorem end_v53 (b : Fin 2) (h : Fin 100) (x : Fin 4) : (V37 m (outs m) c main_v53 : S2x100x4.Idx → EReal) (ix3 b h x) = outBox (given m c) b h x := by
  rw [V37_eq]
  exact Post.C_v53 _ _ (Post.T_v52 _ _ (b_v51 m c)) (t_v47 m c) b h x
theorem end_v57 (b : Fin 2) (h : Fin 100) : (V37 m (outs m) c main_v57 : S2x100.Idx → BitVec 32) (ix2 b h) = outLab (given m c) b h := by
  rw [V37_eq]
  exact Post.C_v57 _ _ (Post.T_idx _ _ (b_v51 m c)) (Post.T_val _ _ (b_v51 m c)) (t_v48 m c) b h
theorem end_v58 (b : Fin 2) (h : Fin 100) : (V37 m (outs m) c main_v58 : S2x100.Idx → EReal) (ix2 b h) = outSc (given m c) b h := by
  rw [V37_eq]
  exact Post.C_v58 _ _ (Post.T_val _ _ (b_v51 m c)) b h

end Cert.KernelIdeal.Ends
end
-- ==== Proof.RefValue.lean ====
module
public import proofs.«01_k».proof.Proof.RefRun
public import proofs.«01_k».proof.Proof.Gathers
public import proofs.«01_k».proof.Proof.Sorts
public import proofs.«01_k».proof.Proof.Spec
public import Idealize.ShloMosaic.Lib.StableHlo.ReadAt
public import Idealize.ShloMosaic.Lib.Pointwise
@[expose] public section
set_option maxRecDepth 16384
noncomputable section
namespace Cert.ReferenceIdeal.Read
open Cert.ReferenceIdeal Cert.ReferenceIdeal.Gen Cert.ReferenceIdeal.Value
open Idealize.ShloMosaic Idealize.ShloMosaic.TcCoe Idealize.ShloMosaic.StableHlo
open Idealize.SL.Sem

open Cert.Spec Cert.Boxes

variable (V : Valuation τ sig (Elt Ideal)) (I : Inputs)

/-- The stretches before the loop, in six parts. -/
def wA : Valuation τ sig (Elt Ideal) := after hostOps0_1 (after hostOps0 V)
def wB : Valuation τ sig (Elt Ideal) := after hostOps0_5 (after hostOps0_4 (after hostOps0_3 (after hostOps0_2 V)))
def wC : Valuation τ sig (Elt Ideal) := after hostOps0_17 (after hostOps0_16 (after hostOps0_15 (after hostOps0_14
  (after hostOps0_13 (after hostOps0_12 (after hostOps0_11 (after hostOps0_10 (after hostOps0_9 (after hostOps0_8 (after hostOps0_7
    (after hostOps0_6 V)))))))))))
def wM : Valuation τ sig (Elt Ideal) := after hostOps0_18 V
def wD : Valuation τ sig (Elt Ideal) := after hostOps0_23 (after hostOps0_22 (after hostOps0_21 (after hostOps0_20 (after hostOps0_19 V))))
def wE : Valuation τ sig (Elt Ideal) := after hostOps0_32 (after hostOps0_31 (after hostOps0_30 (after hostOps0_29 (after hostOps0_28
  (after hostOps0_27 (after hostOps0_26 (after hostOps0_25 (after hostOps0_24 V))))))))

/-- The inputs, from a valuation. -/
def inp : Inputs := ofArrays (V main_arg0 : S2x4x100x200.Idx → EReal) (V main_arg1 : S2x1x100x200.Idx → EReal)
  (V main_arg2 : S20000x4.Idx → EReal) (V main_arg4 : S2x20000x256.Idx → EReal)

theorem select_ofBool {α : Type} (p : Prop) [Decidable p] (a b : α) :
    Scalar.select (BitVec.ofBool (decide p)) a b = if p then a else b := by
  by_cases h : p <;> simp [h, Scalar.select]

theorem A_v36 (b : Fin 2) (n : Fin 1600000) : (wA V main_v36 : S2x1600000.Idx → EReal) (ix2 b n) = msk (inp V) b n := by
  unfold wA
  after_reads_at
  exact (select_ofBool _ _ _).symm
theorem A_v18 (b : Fin 2) (n : Fin 20000) (c : Fin 4) : (wA V main_v18 : S2x20000x4.Idx → EReal) (ix3 b n c) = (inp V).reg b n c := by
  unfold wA
  after_reads_at
  rfl
theorem A_arg2 (n : Fin 20000) (c : Fin 4) : (wA V main_arg2 : S20000x4.Idx → EReal) (ix2 n c) = (inp V).anc n c := by
  unfold wA
  after_reads_at
  rfl

section B
variable (h36 : ∀ b n, (V main_v36 : S2x1600000.Idx → EReal) (ix2 b n) = msk I b n)
include h36

theorem row_eq (b : Fin 2) : (fun n => (V main_v36 : S2x1600000.Idx → EReal) (ix2 b n)) = msk I b := funext fun n => h36 b n

theorem B_idx (b : Fin 2) (k : Fin 1000) : (Host.topK S2x1000 1 (FloatOps.cmpfTotal (F := Ideal) (φ := .f32) CmpDirection.gt) (V main_v36 : S2x1600000.Idx → EReal) sliceFits_S2x1600000_S2x1000).2 (ix2 b k) = BitVec.ofNat 32 (pos I b k).val := by
  refine (Sorts.topK_idx (V main_v36 : S2x1600000.Idx → EReal) sliceFits_S2x1600000_S2x1000 b k (by omega)).trans ?_
  rw [row_eq V I h36]
  rfl
theorem B_values (b : Fin 2) (k : Fin 1000) : (wB V main_values : S2x1000.Idx → EReal) (ix2 b k) = tv I b k := by
  unfold wB
  after_reads_at
  refine (Sorts.topK_val (V main_v36 : S2x1600000.Idx → EReal) sliceFits_S2x1600000_S2x1000 b k (by omega)).trans ?_
  rw [row_eq V I h36, h36]
  rfl
theorem B_v38 (b : Fin 2) (k : Fin 1000) : (wB V main_v38 : S2x1000.Idx → BitVec 1) (ix2 b k) = BitVec.ofBool (decide (0 < tv I b k)) := by
  unfold wB
  after_reads_at
  rw [Sorts.topK_val (V main_v36 : S2x1600000.Idx → EReal) sliceFits_S2x1600000_S2x1000 b k (by omega), row_eq V I h36, h36]
  rfl
theorem B_v39 (b : Fin 2) (k : Fin 1000) : (wB V main_v39 : S2x1000.Idx → BitVec 32) (ix2 b k) = quotW (BitVec.ofNat 32 (pos I b k).val) := by
  unfold wB
  after_reads_at
  rw [B_idx V I h36]
  rfl
theorem B_v40 (b : Fin 2) (k : Fin 1000) : (wB V main_v40 : S2x1000.Idx → BitVec 32) (ix2 b k) = remW (BitVec.ofNat 32 (pos I b k).val) := by
  unfold wB
  after_reads_at
  rw [B_idx V I h36]
  rfl
end B
theorem B_v18 : wB V main_v18 = V main_v18 := by unfold wB; after_reads_simp
theorem B_arg2 : wB V main_arg2 = V main_arg2 := by unfold wB; after_reads_simp

theorem zeroC : (id (constant (F := Ideal) S_ FTy.f32 0#32) ix0 : EReal) = 0 := Ideal.ofBits_zero_f32

theorem clipC (w z x : EReal) (h : z = 0) : min w (max z x) = clip w x := by rw [h]; rfl

/-- The rows the candidates' anchors and regressions are gathered at. -/
theorem C_start (h39 : ∀ b k, (V main_v39 : S2x1000.Idx → BitVec 32) (ix2 b k) = quotW (BitVec.ofNat 32 (pos I b k).val)) (b : Fin 2) (k : Fin 1000) :
    (broadcastInDim S2x1000x1 ![0, 1] bcast_S2x1000_S2x1000x1_0_1
      (select (cmpi CmpIPredicate.slt (V (Proc.tc.devRef main_v39)) (broadcastInDim S2x1000 ![] bcast_S_S2x1000 (constantI S_ 32 0#32)))
        (addi (V (Proc.tc.devRef main_v39)) (broadcastInDim S2x1000 ![] bcast_S_S2x1000 (constantI S_ 32 20000#32)))
        (V (Proc.tc.devRef main_v39))) (ix3 b k 0)).toInt = (loc I b k).val := by
  have h : ((V main_v39 : S2x1000.Idx → BitVec 32) (ix2 b k)).toInt = (loc I b k).val := by
    rw [h39]
    exact quotW_toInt _ (pos I b k).2
  refine Eq.trans (congrArg BitVec.toInt ?_) h
  pointwise
  exact Gathers.wrap_of_nonneg _ _ _ h

section C
variable (h39 : ∀ b k, (V main_v39 : S2x1000.Idx → BitVec 32) (ix2 b k) = quotW (BitVec.ofNat 32 (pos I b k).val))
  (h40 : ∀ b k, (V main_v40 : S2x1000.Idx → BitVec 32) (ix2 b k) = remW (BitVec.ofNat 32 (pos I b k).val))
  (h18 : ∀ b n c, (V main_v18 : S2x20000x4.Idx → EReal) (ix3 b n c) = I.reg b n c)
  (h2 : ∀ n c, (V main_arg2 : S20000x4.Idx → EReal) (ix2 n c) = I.anc n c)

include h39 h2 in
theorem C_anc (b : Fin 2) (k : Fin 1000) (c : Fin 4) :
    (Host.gather gather_S20000x4_S2x1000x1_S2x1000x4_2_0_n_n_0_2_14 (V (Proc.tc.devRef main_arg2))
      (broadcastInDim S2x1000x1 ![0, 1] bcast_S2x1000_S2x1000x1_0_1
      (select (cmpi CmpIPredicate.slt (V (Proc.tc.devRef main_v39)) (broadcastInDim S2x1000 ![] bcast_S_S2x1000 (constantI S_ 32 0#32)))
        (addi (V (Proc.tc.devRef main_v39)) (broadcastInDim S2x1000 ![] bcast_S_S2x1000 (constantI S_ 32 20000#32)))
        (V (Proc.tc.devRef main_v39)))) (ix3 b k c) : EReal) = I.anc (loc I b k) c :=
  (Gathers.tableRows_apply gather_S20000x4_S2x1000x1_S2x1000x4_2_0_n_n_0_2_14_wf _ _ b k c (loc I b k) (C_start V I h39 b k)).trans (h2 _ c)

include h39 h18 in
theorem C_reg (b : Fin 2) (k : Fin 1000) (c : Fin 4) :
    (Host.gather gather_S2x20000x4_S2x1000x1_S2x1000x4_2_1_0_0_1_2_114 (V (Proc.tc.devRef main_v18))
      (broadcastInDim S2x1000x1 ![0, 1] bcast_S2x1000_S2x1000x1_0_1
      (select (cmpi CmpIPredicate.slt (V (Proc.tc.devRef main_v39)) (broadcastInDim S2x1000 ![] bcast_S_S2x1000 (constantI S_ 32 0#32)))
        (addi (V (Proc.tc.devRef main_v39)) (broadcastInDim S2x1000 ![] bcast_S_S2x1000 (constantI S_ 32 20000#32)))
        (V (Proc.tc.devRef main_v39)))) (ix3 b k c) : EReal) = I.reg b (loc I b k) c :=
  (Gathers.batchRows_apply gather_S2x20000x4_S2x1000x1_S2x1000x4_2_1_0_0_1_2_114_wf _ _ b k c (loc I b k) (C_start V I h39 b k)).trans (h18 b _ c)

include h40 in
theorem C_v42 (b : Fin 2) (k : Fin 1000) : (wC V main_v42 : S2x1000.Idx → BitVec 32) (ix2 b k) = lab I b k := by
  unfold wC
  after_reads_at
  rw [h40]
  rfl
include h39 h18 h2
theorem C_v102 (b : Fin 2) (k : Fin 1000) : (wC V main_v102 : S2x1000.Idx → EReal) (ix2 b k) = box I b k 0 := by
  unfold wC
  after_reads_at
  simp only [C_anc V I h39 h2, C_reg V I h39 h18]
  exact (clipC _ _ _ zeroC).trans rfl
theorem C_v106 (b : Fin 2) (k : Fin 1000) : (wC V main_v106 : S2x1000.Idx → EReal) (ix2 b k) = box I b k 1 := by
  unfold wC
  after_reads_at
  simp only [C_anc V I h39 h2, C_reg V I h39 h18]
  exact (clipC _ _ _ zeroC).trans rfl
theorem C_v110 (b : Fin 2) (k : Fin 1000) : (wC V main_v110 : S2x1000.Idx → EReal) (ix2 b k) = box I b k 2 := by
  unfold wC
  after_reads_at
  simp only [C_anc V I h39 h2, C_reg V I h39 h18]
  exact (clipC _ _ _ zeroC).trans rfl
theorem C_v114 (b : Fin 2) (k : Fin 1000) : (wC V main_v114 : S2x1000.Idx → EReal) (ix2 b k) = box I b k 3 := by
  unfold wC
  after_reads_at
  simp only [C_anc V I h39 h2, C_reg V I h39 h18]
  exact (clipC _ _ _ zeroC).trans rfl
end C
theorem C_values : wC V main_values = V main_values := by unfold wC; after_reads_simp
theorem C_v38 : wC V main_v38 = V main_v38 := by unfold wC; after_reads_simp

section M
variable (h102 : ∀ b k, (V main_v102 : S2x1000.Idx → EReal) (ix2 b k) = box I b k 0)
  (h106 : ∀ b k, (V main_v106 : S2x1000.Idx → EReal) (ix2 b k) = box I b k 1)
  (h110 : ∀ b k, (V main_v110 : S2x1000.Idx → EReal) (ix2 b k) = box I b k 2)
  (h114 : ∀ b k, (V main_v114 : S2x1000.Idx → EReal) (ix2 b k) = box I b k 3)
  (hv : ∀ b k, (V main_values : S2x1000.Idx → EReal) (ix2 b k) = tv I b k)
  (h38 : ∀ b k, (V main_v38 : S2x1000.Idx → BitVec 1) (ix2 b k) = BitVec.ofBool (decide (0 < tv I b k)))
  (h42 : ∀ b k, (V main_v42 : S2x1000.Idx → BitVec 32) (ix2 b k) = lab I b k)

include h102 h106 h110 h114 in
theorem M_v119 (b : Fin 2) (k : Fin 1000) (c : Fin 4) : (wM V main_v119 : S2x1000x4.Idx → EReal) (ix3 b k c) = box I b k c := by
  unfold wM
  obtain rfl | rfl | rfl | rfl : c = 0 ∨ c = 1 ∨ c = 2 ∨ c = 3 := by fin_cases c <;> simp
  · after_reads_at
    after_reads_at
    exact h102 b k
  · after_reads_at
    after_reads_at
    exact h106 b k
  · after_reads_at
    after_reads_at
    exact h110 b k
  · after_reads_at
    after_reads_at
    exact h114 b k
include hv in
theorem M_v122 (b : Fin 2) (k : Fin 1000) : (wM V main_v122 : S2x1000.Idx → EReal) (ix2 b k) = Ideal.sqrt (max (tv I b k) tiny) := by
  unfold wM
  after_reads_at
  rw [hv]
  rfl
include h102 h106 h110 h114 h38 in
theorem M_v138 (b : Fin 2) (k : Fin 1000) : (wM V main_v138 : S2x1000.Idx → BitVec 1) (ix2 b k) = vbit I b k := by
  unfold wM
  after_reads_at
  after_reads_at
  rw [h102, h106, h110, h114, h38]
  rfl
include h42 in
theorem M_v141 (b : Fin 2) (k : Fin 1000) : (wM V main_v141 : S2x1000.Idx → EReal) (ix2 b k)
    = (((lab I b k).toInt : ℝ) : EReal) * Ideal.ofBits .f32 0x44A6C000#32 := by
  unfold wM
  after_reads_at
  rw [h42]
  rfl
end M
/-- How far the box of a candidate that does not count is moved. -/
def offE (k : Fin 1000) : EReal := (FloatOps.sitofp (F := Ideal) FTy.f32 (BitVec.ofNat 32 k.val) + Ideal.ofBits FTy.f32 1117782016#32 +
        Ideal.ofBits FTy.f32 1092616192#32) * Ideal.ofBits FTy.f32 1151778816#32
theorem M_v148 (k : Fin 1000) : (wM V main_v148 : S1000.Idx → EReal) (ix1 k) = offE k := by
  unfold wM
  after_reads_at
  rfl
theorem M_v42 : wM V main_v42 = V main_v42 := by unfold wM; after_reads_simp
-- ==== Proof.RefOrder.lean ====
module
public import proofs.«01_k».proof.Proof.RefValue
public import proofs.«01_k».proof.Proof.Gathers
public import proofs.«01_k».proof.Proof.Sorts
public import proofs.«01_k».proof.Proof.Spec
public import Idealize.ShloMosaic.Lib.StableHlo.ReadAt
public import Idealize.ShloMosaic.Lib.Pointwise
@[expose] public section
set_option maxRecDepth 16384
noncomputable section
namespace Cert.ReferenceIdeal.Read
open Cert.ReferenceIdeal Cert.ReferenceIdeal.Gen Cert.ReferenceIdeal.Value
open Idealize.ShloMosaic Idealize.ShloMosaic.TcCoe Idealize.ShloMosaic.StableHlo
open Idealize.SL.Sem

open Cert.Spec Cert.Boxes

variable (V : Valuation τ sig (Elt Ideal)) (I : Inputs)

section D
variable (h119 : ∀ b k c, (V main_v119 : S2x1000x4.Idx → EReal) (ix3 b k c) = box I b k c)
  (h122 : ∀ b k, (V main_v122 : S2x1000.Idx → EReal) (ix2 b k) = Ideal.sqrt (max (tv I b k) tiny))
  (h138 : ∀ b k, (V main_v138 : S2x1000.Idx → BitVec 1) (ix2 b k) = vbit I b k)
  (h141 : ∀ b k, (V main_v141 : S2x1000.Idx → EReal) (ix2 b k) = (((lab I b k).toInt : ℝ) : EReal) * Ideal.ofBits .f32 0x44A6C000#32)
  (h148 : ∀ k, (V main_v148 : S1000.Idx → EReal) (ix1 k) = offE k)

include h119 h138 h141 h148 in
theorem D_v152 (b : Fin 2) (k : Fin 1000) (c : Fin 4) : (wD V main_v152 : S2x1000x4.Idx → EReal) (ix3 b k c) = far I offE b k c := by
  unfold wD
  after_reads_at
  rw [h119, h138, h141, h148]
  rfl
include h122 h138 in
theorem D_v153 (b : Fin 2) (k : Fin 1000) : (wD V main_v153 : S2x1000.Idx → EReal) (ix2 b k) = sc I b k := by
  unfold wD
  after_reads_at
  rw [h122, h138]
  rfl
include h122 h138 in
theorem D_v155 (b : Fin 2) (k : Fin 1000) : (wD V main_v155 : S2x1000.Idx → BitVec 32) (ix2 b k) = BitVec.ofNat 32 (ord I b k).val := by
  unfold wD
  after_reads_at
  refine (Sorts.sort2_idx _ _ _ Sorts.cmp_ref (fun b n => ?_) b k).trans ?_
  · pointwise
  · refine congrArg (fun r : Fin 1000 → EReal => BitVec.ofNat 32 (Sorts.upOrder r k).val) (funext fun n => ?_)
    pointwise
    rw [h122, h138]
    rfl
end D
theorem D_v119 : wD V main_v119 = V main_v119 := by unfold wD; after_reads_simp
theorem D_v42 : wD V main_v42 = V main_v42 := by unfold wD; after_reads_simp
theorem D_v138 : wD V main_v138 = V main_v138 := by unfold wD; after_reads_simp

/-- An index array built from words below the row count. -/
theorem start_of (w : S2x1000.Idx → BitVec 32) (b : Fin 2) (k n : Fin 1000) (h : w (ix2 b k) = BitVec.ofNat 32 n.val) :
    (broadcastInDim S2x1000x1 ![0, 1] bcast_S2x1000_S2x1000x1_0_1
      (select (cmpi CmpIPredicate.slt w (broadcastInDim S2x1000 ![] bcast_S_S2x1000 (constantI S_ 32 0#32)))
        (addi w (broadcastInDim S2x1000 ![] bcast_S_S2x1000 (constantI S_ 32 1000#32))) w) (ix3 b k 0)).toInt = n.val := by
  have h' : (w (ix2 b k)).toInt = n.val := by rw [h]; exact Gathers.toInt_ofNat _ (by omega)
  refine Eq.trans (congrArg BitVec.toInt ?_) h'
  pointwise
  exact Gathers.wrap_of_nonneg _ _ _ h'

theorem rows_of (x : S2x1000x4.Idx → EReal) (w : S2x1000.Idx → BitVec 32) (o : Fin 2 → Fin 1000 → Fin 1000)
    (h : ∀ b k, w (ix2 b k) = BitVec.ofNat 32 (o b k).val) (b : Fin 2) (k : Fin 1000) (c : Fin 4) :
    Host.gather gather_S2x1000x4_S2x1000x1_S2x1000x4_2_1_0_0_1_2_114 x (broadcastInDim S2x1000x1 ![0, 1] bcast_S2x1000_S2x1000x1_0_1
      (select (cmpi CmpIPredicate.slt w (broadcastInDim S2x1000 ![] bcast_S_S2x1000 (constantI S_ 32 0#32)))
        (addi w (broadcastInDim S2x1000 ![] bcast_S_S2x1000 (constantI S_ 32 1000#32))) w)) (ix3 b k c) = x (ix3 b (o b k) c) :=
  Gathers.batchRows_apply gather_S2x1000x4_S2x1000x1_S2x1000x4_2_1_0_0_1_2_114_wf _ _ b k c _ (start_of w b k _ (h b k))

theorem vec_of {α : Type} (x : S2x1000.Idx → α) (w : S2x1000.Idx → BitVec 32) (o : Fin 2 → Fin 1000 → Fin 1000)
    (h : ∀ b k, w (ix2 b k) = BitVec.ofNat 32 (o b k).val) (b : Fin 2) (k : Fin 1000) :
    Host.gather gather_S2x1000_S2x1000x1_S2x1000_n_1_0_0_1_2_11 x (broadcastInDim S2x1000x1 ![0, 1] bcast_S2x1000_S2x1000x1_0_1
      (select (cmpi CmpIPredicate.slt w (broadcastInDim S2x1000 ![] bcast_S_S2x1000 (constantI S_ 32 0#32)))
        (addi w (broadcastInDim S2x1000 ![] bcast_S_S2x1000 (constantI S_ 32 1000#32))) w)) (ix2 b k) = x (ix2 b (o b k)) :=
  Gathers.batchVec_apply gather_S2x1000_S2x1000x1_S2x1000_n_1_0_0_1_2_11_wf _ _ b k _ (start_of w b k _ (h b k))

section E
variable (h155 : ∀ b k, (V main_v155 : S2x1000.Idx → BitVec 32) (ix2 b k) = BitVec.ofNat 32 (ord I b k).val)
  (h152 : ∀ b k c, (V main_v152 : S2x1000x4.Idx → EReal) (ix3 b k c) = far I offE b k c)
  (h153 : ∀ b k, (V main_v153 : S2x1000.Idx → EReal) (ix2 b k) = sc I b k)
  (h119 : ∀ b k c, (V main_v119 : S2x1000x4.Idx → EReal) (ix3 b k c) = box I b k c)
  (h42 : ∀ b k, (V main_v42 : S2x1000.Idx → BitVec 32) (ix2 b k) = lab I b k)
  (h138 : ∀ b k, (V main_v138 : S2x1000.Idx → BitVec 1) (ix2 b k) = vbit I b k)
include h155
include h153 in
theorem E_v232 (b : Fin 2) (k : Fin 1000) : (wE V main_v232 : S2x1000.Idx → EReal) (ix2 b k) = sc I b (ord I b k) := by
  unfold wE
  after_reads_at
  exact (vec_of _ _ (ord I) h155 b k).trans (h153 _ _)
include h119 in
theorem E_v239 (b : Fin 2) (k : Fin 1000) (c : Fin 4) : (wE V main_v239 : S2x1000x4.Idx → EReal) (ix3 b k c) = box I b (ord I b k) c := by
  unfold wE
  after_reads_at
  exact (rows_of _ _ (ord I) h155 b k c).trans (h119 _ _ _)
include h42 in
theorem E_v246 (b : Fin 2) (k : Fin 1000) : (wE V main_v246 : S2x1000.Idx → BitVec 32) (ix2 b k) = lab I b (ord I b k) := by
  unfold wE
  after_reads_at
  exact (vec_of _ _ (ord I) h155 b k).trans (h42 _ _)
include h138 in
theorem E_v253 (b : Fin 2) (k : Fin 1000) : (wE V main_v253 : S2x1000.Idx → BitVec 1) (ix2 b k) = vbit I b (ord I b k) := by
  unfold wE
  after_reads_at
  exact (vec_of _ _ (ord I) h155 b k).trans (h138 _ _)
include h152 in
theorem E_v225 (b : Fin 2) (p q : Fin 1000) : (wE V main_v225 : S2x1000x1000.Idx → EReal) (ix3 b p q)
    = iou (far I offE b (ord I b p)) (far I offE b (ord I b q)) := by
  unfold wE
  after_reads_at
  have e : ∀ (b : Fin 2) (k : Fin 1000) (c : Fin 4), Host.gather gather_S2x1000x4_S2x1000x1_S2x1000x4_2_1_0_0_1_2_114 (V (Proc.tc.devRef main_v152))
      (broadcastInDim S2x1000x1 ![0, 1] bcast_S2x1000_S2x1000x1_0_1
        (select (cmpi CmpIPredicate.slt (V (Proc.tc.devRef main_v155)) (broadcastInDim S2x1000 ![] bcast_S_S2x1000 (constantI S_ 32 0#32)))
          (addi (V (Proc.tc.devRef main_v155)) (broadcastInDim S2x1000 ![] bcast_S_S2x1000 (constantI S_ 32 1000#32)))
          (V (Proc.tc.devRef main_v155)))) (ix3 b k c) = far I offE b (ord I b k) c := fun b k c =>
    (rows_of (V (Proc.tc.devRef main_v152)) (V (Proc.tc.devRef main_v155)) (ord I) h155 b k c).trans (h152 b (ord I b k) c)
  simp only [e]
  exact (iou_z (Ideal.ofBits .f32 0x00000000#32) Ideal.ofBits_zero_f32 _ _).symm
end E
-- ==== Proof.RefLoop.lean ====
module
public import proofs.«01_k».proof.Proof.RefOrder
public import proofs.«01_k».proof.Proof.Gathers
public import proofs.«01_k».proof.Proof.Sorts
public import proofs.«01_k».proof.Proof.Spec
public import Idealize.ShloMosaic.Lib.StableHlo.ReadAt
public import Idealize.ShloMosaic.Lib.Pointwise
@[expose] public section
set_option maxRecDepth 16384
noncomputable section
namespace Cert.ReferenceIdeal.Read
open Cert.ReferenceIdeal Cert.ReferenceIdeal.Gen Cert.ReferenceIdeal.Value
open Idealize.ShloMosaic Idealize.ShloMosaic.TcCoe Idealize.ShloMosaic.StableHlo
open Idealize.SL.Sem

open Cert.Spec Cert.Boxes

theorem first_eq : (Shape.Idx.first h_S_ : S_.Idx) = ix0 := by
  funext a
  exact a.elim0

variable (V : Valuation τ sig (Elt Ideal)) (I : Inputs)

theorem clamp_of (x : Int) (m n : Nat) (h : x = n) (hn : n ≤ m) : (min (max x 0) (m : Int)).toNat = n := by
  rw [h]
  omega

theorem ix3_of (a a' : Fin 2) (b b' c c' : Fin 1000) (h1 : a.val = a'.val) (h2 : b.val = b'.val) (h3 : c.val = c'.val) :
    (ix3 a b c : S2x1000x1000.Idx) = ix3 a' b' c' := by
  rw [Fin.ext h1, Fin.ext h2, Fin.ext h3]
theorem ix2_of (a a' : Fin 2) (b b' : Fin 1000) (h1 : a.val = a'.val) (h2 : b.val = b'.val) :
    (ix2 a b : S2x1000.Idx) = ix2 a' b' := by
  rw [Fin.ext h1, Fin.ext h2]

/-- The start the loop's slices take on the candidates' axis. -/
theorem start_row (w : S_.Idx → BitVec 32) (n : Fin 1000) (h : w ix0 = BitVec.ofNat 32 n.val) :
    (select (cmpi CmpIPredicate.slt w (constantI S_ 32 0#32)) (addi w (constantI S_ 32 1000#32)) w (Shape.Idx.first h_S_)).toInt = n.val := by
  have h' : (w ix0).toInt = n.val := by rw [h]; exact Gathers.toInt_ofNat _ (by omega)
  rw [first_eq]
  refine Eq.trans (congrArg BitVec.toInt ?_) h'
  exact Gathers.wrap_of_nonneg _ _ _ h'

/-- One trip's flag of a candidate, from the flags before it. -/
theorem step4 (n : Fin 1000) (hi : (V main_v256_3 : S_.Idx → BitVec 32) ix0 = BitVec.ofNat 32 n.val) (b : Fin 2) (q : Fin 1000) :
    (step_main_v256_4 V : S2x1000.Idx → BitVec 1) (ix2 b q) = IntOp.andi ((V main_v256_4 : S2x1000.Idx → BitVec 1) (ix2 b q))
      (~~~IntOp.andi (IntOp.andi (BitVec.ofBool (decide (Ideal.ofBits FTy.f32 0x3F19999A#32 < (V main_v256_0 : S2x1000x1000.Idx → EReal) (ix3 b n q))))
        (IntOp.cmpi .sgt ((V main_v256_1 : S1000.Idx → BitVec 32) (ix1 q)) ((V main_v256_3 : S_.Idx → BitVec 32) ix0)))
        ((V main_v256_4 : S2x1000.Idx → BitVec 1) (ix2 b n))) := by
  unfold step_main_v256_4
  simp only [id]
  pointwise
  refine congrArg₂ IntOp.andi rfl (congrArg (fun z : BitVec 1 => ~~~z) (congrArg₂ IntOp.andi (congrArg₂ IntOp.andi
    (congrArg (fun z => BitVec.ofBool (decide (Ideal.ofBits FTy.f32 0x3F19999A#32 < (V main_v256_0 : S2x1000x1000.Idx → EReal) z))) ?_) rfl)
    (congrArg (V main_v256_4 : S2x1000.Idx → BitVec 1) ?_)))
  · refine ix3_of _ _ _ _ _ _ ?_ ?_ ?_
    · show Host.clampedStart _ _ _ _ _ + b.val = b.val
      refine (congrArg (· + b.val) (clamp_of _ _ 0 ?_ (Nat.zero_le _))).trans (Nat.zero_add _)
      rfl
    · exact clamp_of _ 999 n.val (start_row _ n hi) (by omega)
    · show Host.clampedStart _ _ _ _ _ + q.val = q.val
      refine (congrArg (· + q.val) (clamp_of _ _ 0 ?_ (Nat.zero_le _))).trans (Nat.zero_add _)
      rfl
  · refine ix2_of _ _ _ _ ?_ ?_
    · show Host.clampedStart _ _ _ _ _ + b.val = b.val
      refine (congrArg (· + b.val) (clamp_of _ _ 0 ?_ (Nat.zero_le _))).trans (Nat.zero_add _)
      rfl
    · exact clamp_of _ 999 n.val (start_row _ n hi) (by omega)

/-- What the carried buffers hold before trip `k`. -/
structure Inv (k : Nat) : Prop where
  h0 : ∀ b p q, (V main_v256_0 : S2x1000x1000.Idx → EReal) (ix3 b p q) = iou (far I offE b (ord I b p)) (far I offE b (ord I b q))
  h1 : ∀ q, (V main_v256_1 : S1000.Idx → BitVec 32) (ix1 q) = BitVec.ofNat 32 q.val
  h3 : (V main_v256_3 : S_.Idx → BitVec 32) ix0 = BitVec.ofNat 32 k
  h4 : ∀ b (q : Fin 1000), (V main_v256_4 : S2x1000.Idx → BitVec 1) (ix2 b q) = 1#1 ↔ Order.keepAt (supR I offE b) k q

theorem bits (a b c d : BitVec 1) : IntOp.andi a (~~~IntOp.andi (IntOp.andi b c) d) = 1#1 ↔ a = 1#1 ∧ ¬ ((c = 1#1 ∧ b = 1#1) ∧ d = 1#1) := by
  revert a b c d
  decide

theorem ofBool_one (p : Prop) [Decidable p] : BitVec.ofBool (decide p) = 1#1 ↔ p := by
  by_cases h : p <;> simp [h]

theorem sgt_one (q k : Nat) (hq : q < 1000) (hk : k < 1000) : IntOp.cmpi .sgt (BitVec.ofNat 32 q) (BitVec.ofNat 32 k) = 1#1 ↔ k < q := by
  have e : IntOp.cmpi .sgt (BitVec.ofNat 32 q) (BitVec.ofNat 32 k) = BitVec.ofBool (decide (k < q)) := by
    simp [IntOp.cmpi, BitVec.slt, Gathers.toInt_ofNat q (by omega), Gathers.toInt_ofNat k (by omega)]
  rw [e, ofBool_one]

theorem Inv.of_agree {V V' : Valuation τ sig (Elt Ideal)} {I : Inputs} {k : Nat} (h : Agree V V') (hI : Inv V' I k) : Inv V I k where
  h0 := by rw [h main_v256_0 (by decide)]; exact hI.h0
  h1 := by rw [h main_v256_1 (by decide)]; exact hI.h1
  h3 := by rw [h main_v256_3 (by decide)]; exact hI.h3
  h4 := by rw [h main_v256_4 (by decide)]; exact hI.h4

theorem Inv.step {k : Nat} (hk : k < 1000) (h : Inv V I k) : Inv (STEP V) I (k + 1) where
  h0 := by rw [STEP_main_v256_0]; exact h.h0
  h1 := by rw [STEP_main_v256_1]; exact h.h1
  h3 := by
    rw [STEP_main_v256_3]
    unfold step_main_v256_3
    show IntOp.addi ((V main_v256_3 : S_.Idx → BitVec 32) ix0) 1#32 = _
    rw [h.h3]
    show BitVec.ofNat 32 k + BitVec.ofNat 32 1 = _
    rw [← BitVec.ofNat_add]
  h4 b q := by
    rw [STEP_main_v256_4]
    refine (Eq.congr_left (step4 V ⟨k, hk⟩ h.h3 b q)).trans ?_
    rw [bits, ofBool_one, h.h0, h.h1, h.h3, sgt_one _ _ q.2 hk, h.h4, h.h4]
    exact and_congr Iff.rfl (not_congr (and_congr (supR_fin I offE b ⟨k, hk⟩ q).symm Iff.rfl))

section Entry
variable (h155 : ∀ b k, (V main_v155 : S2x1000.Idx → BitVec 32) (ix2 b k) = BitVec.ofNat 32 (ord I b k).val)
  (h152 : ∀ b k c, (V main_v152 : S2x1000x4.Idx → EReal) (ix3 b k c) = far I offE b k c)
include h155 h152
theorem E_inv : Inv (wE V) I 0 where
  h0 b p q := by
    have e : (wE V main_v256_0 : S2x1000x1000.Idx → EReal) = wE V main_v225 := by
      unfold wE
      after_reads_simp
      rfl
    rw [e]
    exact E_v225 V I h155 h152 b p q
  h1 q := by
    unfold wE
    after_reads_at
    rfl
  h3 := by
    unfold wE
    after_reads_at
    rfl
  h4 b q := by
    refine ⟨fun _ => trivial, fun _ => ?_⟩
    unfold wE
    after_reads_at
    rfl
end Entry

section Loop
variable (m : (ℓ : Loc nD τ sig) → Buf (Elt Ideal) ℓ) (c : Dev nD)

/-- The buffers of one device at launch. -/
abbrev launch : Valuation τ sig (Elt Ideal) := fun b => m (c, b)

theorem entry_eq : entryContents preI m c = wE (wD (wM (wC (wB (wA (launch m c)))))) := rfl

theorem loop_inv (h : Inv (entryContents preI m c) I 0) : ∀ k ≤ 1000, Inv (atK m k c) I k
  | 0, _ => h
  | k + 1, hk => (Inv.step _ I (by omega) (loop_inv h k (by omega))).of_agree (trip_agree (atK m k c))
end Loop

end Cert.ReferenceIdeal.Read

end
-- ==== Proof.RefPost.lean ====
module
public import proofs.«01_k».proof.Proof.RefLoop
@[expose] public section
set_option maxRecDepth 16384
noncomputable section
namespace Cert.ReferenceIdeal.Read
open Cert.ReferenceIdeal Cert.ReferenceIdeal.Gen Cert.ReferenceIdeal.Value
open Idealize.ShloMosaic Idealize.ShloMosaic.TcCoe Idealize.ShloMosaic.StableHlo
open Idealize.SL.Sem

open Cert.Spec Cert.Boxes

/-! What the loop is entered with, from the launch contents. -/
section Entry
variable (V : Valuation τ sig (Elt Ideal))

abbrev vB : Valuation τ sig (Elt Ideal) := wB (wA V)
abbrev vC : Valuation τ sig (Elt Ideal) := wC (vB V)
abbrev vM : Valuation τ sig (Elt Ideal) := wM (vC V)
abbrev vD : Valuation τ sig (Elt Ideal) := wD (vM V)
abbrev vE : Valuation τ sig (Elt Ideal) := wE (vD V)

theorem L_v39 (b : Fin 2) (k : Fin 1000) : (vB V main_v39 : S2x1000.Idx → BitVec 32) (ix2 b k) = quotW (BitVec.ofNat 32 (pos (inp V) b k).val) :=
  B_v39 _ _ (A_v36 V) b k
theorem L_v18 (b : Fin 2) (n : Fin 20000) (c : Fin 4) : (vB V main_v18 : S2x20000x4.Idx → EReal) (ix3 b n c) = (inp V).reg b n c := by
  rw [vB, B_v18]; exact A_v18 V b n c
theorem L_arg2 (n : Fin 20000) (c : Fin 4) : (vB V main_arg2 : S20000x4.Idx → EReal) (ix2 n c) = (inp V).anc n c := by
  rw [vB, B_arg2]; exact A_arg2 V n c
theorem L_v38 (b : Fin 2) (k : Fin 1000) : (vC V main_v38 : S2x1000.Idx → BitVec 1) (ix2 b k) = BitVec.ofBool (decide (0 < tv (inp V) b k)) := by
  rw [vC, C_v38]; exact B_v38 _ _ (A_v36 V) b k
theorem L_values (b : Fin 2) (k : Fin 1000) : (vC V main_values : S2x1000.Idx → EReal) (ix2 b k) = tv (inp V) b k := by
  rw [vC, C_values]; exact B_values _ _ (A_v36 V) b k
theorem L_v42 (b : Fin 2) (k : Fin 1000) : (vC V main_v42 : S2x1000.Idx → BitVec 32) (ix2 b k) = lab (inp V) b k :=
  C_v42 _ _ (B_v40 _ _ (A_v36 V)) b k
theorem L_v119 (b : Fin 2) (k : Fin 1000) (c : Fin 4) : (vM V main_v119 : S2x1000x4.Idx → EReal) (ix3 b k c) = box (inp V) b k c :=
  M_v119 _ _ (C_v102 _ _ (L_v39 V) (L_v18 V) (L_arg2 V)) (C_v106 _ _ (L_v39 V) (L_v18 V) (L_arg2 V))
    (C_v110 _ _ (L_v39 V) (L_v18 V) (L_arg2 V)) (C_v114 _ _ (L_v39 V) (L_v18 V) (L_arg2 V)) b k c
theorem L_v138 (b : Fin 2) (k : Fin 1000) : (vM V main_v138 : S2x1000.Idx → BitVec 1) (ix2 b k) = vbit (inp V) b k :=
  M_v138 _ _ (C_v102 _ _ (L_v39 V) (L_v18 V) (L_arg2 V)) (C_v106 _ _ (L_v39 V) (L_v18 V) (L_arg2 V))
    (C_v110 _ _ (L_v39 V) (L_v18 V) (L_arg2 V)) (C_v114 _ _ (L_v39 V) (L_v18 V) (L_arg2 V)) (L_v38 V) b k
theorem L_v122 (b : Fin 2) (k : Fin 1000) : (vM V main_v122 : S2x1000.Idx → EReal) (ix2 b k) = Ideal.sqrt (max (tv (inp V) b k) tiny) :=
  M_v122 _ _ (L_values V) b k
theorem L_v155 (b : Fin 2) (k : Fin 1000) : (vD V main_v155 : S2x1000.Idx → BitVec 32) (ix2 b k) = BitVec.ofNat 32 (ord (inp V) b k).val :=
  D_v155 _ _ (L_v122 V) (L_v138 V) b k
theorem L_v152 (b : Fin 2) (k : Fin 1000) (c : Fin 4) : (vD V main_v152 : S2x1000x4.Idx → EReal) (ix3 b k c) = far (inp V) offE b k c :=
  D_v152 _ _ (L_v119 V) (L_v138 V) (M_v141 _ _ (L_v42 V)) (M_v148 _) b k c

theorem L_inv : Inv (vE V) (inp V) 0 := E_inv _ _ (L_v155 V) (L_v152 V)
theorem L_v232 (b : Fin 2) (k : Fin 1000) : (vE V main_v232 : S2x1000.Idx → EReal) (ix2 b k) = sc (inp V) b (ord (inp V) b k) :=
  E_v232 _ _ (L_v155 V) (D_v153 _ _ (L_v122 V) (L_v138 V)) b k
theorem L_v239 (b : Fin 2) (k : Fin 1000) (c : Fin 4) : (vE V main_v239 : S2x1000x4.Idx → EReal) (ix3 b k c) = box (inp V) b (ord (inp V) b k) c :=
  E_v239 _ _ (L_v155 V) (fun b k c => by rw [vD, D_v119]; exact L_v119 V b k c) b k c
theorem L_v246 (b : Fin 2) (k : Fin 1000) : (vE V main_v246 : S2x1000.Idx → BitVec 32) (ix2 b k) = lab (inp V) b (ord (inp V) b k) :=
  E_v246 _ _ (L_v155 V) (fun b k => by rw [vD, D_v42, vM, M_v42]; exact L_v42 V b k) b k
theorem L_v253 (b : Fin 2) (k : Fin 1000) : (vE V main_v253 : S2x1000.Idx → BitVec 1) (ix2 b k) = vbit (inp V) b (ord (inp V) b k) :=
  E_v253 _ _ (L_v155 V) (fun b k => by rw [vD, D_v138]; exact L_v138 V b k) b k
end Entry

/-! What follows the loop. -/
section Post
variable (V : Valuation τ sig (Elt Ideal)) (I : Inputs)

def wF : Valuation τ sig (Elt Ideal) := after hostOps0_34 (after hostOps0_33 (after condOps V))
def wG : Valuation τ sig (Elt Ideal) := after hostOps0_38 (after hostOps0_37 (after hostOps0_36 (after hostOps0_35 V)))

theorem F_v239 : wF V main_v239 = V main_v239 := by unfold wF; after_reads_simp
theorem F_v246 : wF V main_v246 = V main_v246 := by unfold wF; after_reads_simp

theorem F_v258 (h4 : ∀ b (q : Fin 1000), (V main_v256_4 : S2x1000.Idx → BitVec 1) (ix2 b q) = 1#1 ↔ Order.keepAt (supR I offE b) 1000 q)
    (h232 : ∀ b k, (V main_v232 : S2x1000.Idx → EReal) (ix2 b k) = sc I b (ord I b k))
    (h253 : ∀ b k, (V main_v253 : S2x1000.Idx → BitVec 1) (ix2 b k) = vbit I b (ord I b k))
    (b : Fin 2) (q : Fin 1000) : (wF V main_v258 : S2x1000.Idx → EReal) (ix2 b q) = fin I b q := by
  unfold wF
  after_reads_at
  rw [h232, h253]
  exact fin_eq I offE b q _ (h4 b q)

variable (h258 : ∀ b q, (V main_v258 : S2x1000.Idx → EReal) (ix2 b q) = fin I b q)
include h258

theorem fin_row (b : Fin 2) : (fun n => (V main_v258 : S2x1000.Idx → EReal) (ix2 b n)) = fin I b := funext fun n => h258 b n

theorem G_idx (b : Fin 2) (h : Fin 100) : (Host.topK S2x100 1 (FloatOps.cmpfTotal (F := Ideal) (φ := .f32) CmpDirection.gt)
    (V main_v258 : S2x1000.Idx → EReal) sliceFits_S2x1000_S2x100).2 (ix2 b h) = BitVec.ofNat 32 (best I b h).val := by
  refine (Sorts.topK_idx (V main_v258 : S2x1000.Idx → EReal) sliceFits_S2x1000_S2x100 b h (by omega)).trans ?_
  rw [fin_row V I h258]
  rfl
theorem G_val (b : Fin 2) (h : Fin 100) : (Host.topK S2x100 1 (FloatOps.cmpfTotal (F := Ideal) (φ := .f32) CmpDirection.gt)
    (V main_v258 : S2x1000.Idx → EReal) sliceFits_S2x1000_S2x100).1 (ix2 b h) = fin I b (best I b h) := by
  refine (Sorts.topK_val (V main_v258 : S2x1000.Idx → EReal) sliceFits_S2x1000_S2x100 b h (by omega)).trans ?_
  rw [fin_row V I h258, h258]
  rfl

/-- The rows the hundred results are gathered at. -/
theorem G_start (w : S2x100.Idx → BitVec 32) (b : Fin 2) (h : Fin 100) (hw : w (ix2 b h) = BitVec.ofNat 32 (best I b h).val) :
    (broadcastInDim S2x100x1 ![0, 1] bcast_S2x100_S2x100x1_0_1
      (select (cmpi CmpIPredicate.slt w (broadcastInDim S2x100 ![] bcast_S_S2x100 (constantI S_ 32 0#32)))
        (addi w (broadcastInDim S2x100 ![] bcast_S_S2x100 (constantI S_ 32 1000#32))) w) (ix3 b h 0)).toInt = (best I b h).val := by
  have h' : (w (ix2 b h)).toInt = (best I b h).val := by rw [hw]; exact Gathers.toInt_ofNat _ (by omega)
  refine Eq.trans (congrArg BitVec.toInt ?_) h'
  pointwise
  exact Gathers.wrap_of_nonneg _ _ _ h'

theorem G_v265 (h239 : ∀ b k c, (V main_v239 : S2x1000x4.Idx → EReal) (ix3 b k c) = box I b (ord I b k) c)
    (b : Fin 2) (h : Fin 100) (c : Fin 4) : (wG V main_v265 : S2x100x4.Idx → EReal) (ix3 b h c) = outBox I b h c := by
  unfold wG
  after_reads_at
  exact (Gathers.batchRows_apply gather_S2x1000x4_S2x100x1_S2x100x4_2_1_0_0_1_2_114_wf _ _ b h c _
    (G_start V I h258 _ b h (G_idx V I h258 b h))).trans (h239 _ _ _)
theorem G_v275 (h246 : ∀ b k, (V main_v246 : S2x1000.Idx → BitVec 32) (ix2 b k) = lab I b (ord I b k))
    (b : Fin 2) (h : Fin 100) : (wG V main_v275 : S2x100.Idx → BitVec 32) (ix2 b h) = outLab I b h := by
  unfold wG
  after_reads_at
  rw [G_val V I h258]
  exact (if_congr Iff.rfl ((Gathers.batchVec_apply gather_S2x1000_S2x100x1_S2x100_n_1_0_0_1_2_11_wf _ _ b h _
    (G_start V I h258 _ b h (G_idx V I h258 b h))).trans (h246 _ _)) rfl).trans (select_ofBool _ _ _).symm
theorem G_v276 (b : Fin 2) (h : Fin 100) : (wG V main_v276 : S2x100.Idx → EReal) (ix2 b h) = outSc I b h := by
  unfold wG
  after_reads_at
  rw [G_val V I h258]
  rw [zeroC]
  rfl
end Post

section Ends
variable (m : (ℓ : Loc nD τ sig) → Buf (Elt Ideal) ℓ) (c : Dev nD)

/-- The buffers of one device at the end. -/
abbrev atEnd : Valuation τ sig (Elt Ideal) := finalContents condOps preI bodyI postI 1000 m c

theorem end_eq : atEnd m c = wG (wF (atK m 1000 c)) := rfl

theorem end_v258 (b : Fin 2) (q : Fin 1000) : (wF (atK m 1000 c) main_v258 : S2x1000.Idx → EReal) (ix2 b q) = fin (inp (launch m c)) b q := by
  have h := loop_inv (inp (launch m c)) m c (L_inv (launch m c)) 1000 le_rfl
  refine F_v258 _ _ h.h4 (fun b k => ?_) (fun b k => ?_) b q
  · rw [atK_of m 1000 c (r := main_v232) (by decide +kernel)]; exact L_v232 _ b k
  · rw [atK_of m 1000 c (r := main_v253) (by decide +kernel)]; exact L_v253 _ b k
theorem end_v265 (b : Fin 2) (h : Fin 100) (x : Fin 4) : (atEnd m c main_v265 : S2x100x4.Idx → EReal) (ix3 b h x) = outBox (inp (launch m c)) b h x := by
  rw [end_eq]
  refine G_v265 _ _ (end_v258 m c) (fun b k x => ?_) b h x
  rw [F_v239, atK_of m 1000 c (r := main_v239) (by decide +kernel)]; exact L_v239 _ b k x
theorem end_v275 (b : Fin 2) (h : Fin 100) : (atEnd m c main_v275 : S2x100.Idx → BitVec 32) (ix2 b h) = outLab (inp (launch m c)) b h := by
  rw [end_eq]
  refine G_v275 _ _ (end_v258 m c) (fun b k => ?_) b h
  rw [F_v246, atK_of m 1000 c (r := main_v246) (by decide +kernel)]; exact L_v246 _ b k
theorem end_v276 (b : Fin 2) (h : Fin 100) : (atEnd m c main_v276 : S2x100.Idx → EReal) (ix2 b h) = outSc (inp (launch m c)) b h := by
  rw [end_eq]
  exact G_v276 _ _ (end_v258 m c) b h
end Ends

end Cert.ReferenceIdeal.Read

end
-- ==== Proof.Algebraic.lean ====
/- The two programs' results are equal over the extended reals: both are the same functions of the inputs. -/
module
public import proofs.«01_k».proof.Defs
public import proofs.«01_k».proof.Proof.KerEnd
public import proofs.«01_k».proof.Proof.RefPost
@[expose] public section
set_option maxRecDepth 16384
noncomputable section
namespace Cert.Agree
open Idealize.ShloMosaic Idealize.ShloMosaic.TcCoe Idealize.ShloMosaic.StableHlo
open Idealize.SL.Sem
open Cert.Spec Cert.Boxes

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The results, from the inputs as the kernel's program is given them. -/
def boxesOf : (⟨3, ![2, 100, 4]⟩ : Shape).Idx → EReal := fun i => outBox (Cert.KernelIdeal.Ends.given m c) (i 0) (i 1) (i 2)
def scoresOf : (⟨2, ![2, 100]⟩ : Shape).Idx → EReal := fun i => outSc (Cert.KernelIdeal.Ends.given m c) (i 0) (i 1)
def labelsOf : (⟨2, ![2, 100]⟩ : Shape).Idx → BitVec 32 := fun i => outLab (Cert.KernelIdeal.Ends.given m c) (i 0) (i 1)

/-- Two arrays with the same entries are the same. -/
theorem ext2 {α : Type} {n0 n1 : Nat} (x y : (⟨2, ![n0, n1]⟩ : Shape).Idx → α) (h : ∀ (a : Fin n0) (b : Fin n1), x (ix2 a b) = y (ix2 a b)) : x = y := by
  funext i
  rw [eq_ix2 i]
  exact h _ _
theorem ext3 {α : Type} {n0 n1 n2 : Nat} (x y : (⟨3, ![n0, n1, n2]⟩ : Shape).Idx → α)
    (h : ∀ (a : Fin n0) (b : Fin n1) (c : Fin n2), x (ix3 a b c) = y (ix3 a b c)) : x = y := by
  funext i
  rw [eq_ix3 i]
  exact h _ _ _

open Cert.KernelIdeal.Gen Cert.KernelIdeal.Run in
theorem ker_boxes : V37 m (outs m) c Cert.KernelIdeal.main_v53 = boxesOf m c := ext3 _ _ fun a b x => Cert.KernelIdeal.Ends.end_v53 m c a b x
open Cert.KernelIdeal.Gen Cert.KernelIdeal.Run in
theorem ker_scores : V37 m (outs m) c Cert.KernelIdeal.main_v58 = scoresOf m c := ext2 _ _ fun a b => Cert.KernelIdeal.Ends.end_v58 m c a b
open Cert.KernelIdeal.Gen Cert.KernelIdeal.Run in
theorem ker_labels : V37 m (outs m) c Cert.KernelIdeal.main_v57 = labelsOf m c := ext2 _ _ fun a b => Cert.KernelIdeal.Ends.end_v57 m c a b

section Reference
variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
include h0 h1 h2 h4

/-- Both programs are given the same inputs. -/
theorem same_inputs : Cert.ReferenceIdeal.Read.inp (Cert.ReferenceIdeal.Read.launch m' c) = Cert.KernelIdeal.Ends.given m c := by
  exact congr (congr (congrArg₂ ofArrays h0 h1) h2) h4

theorem ref_boxes : Cert.ReferenceIdeal.Read.atEnd m' c Cert.ReferenceIdeal.main_v265 = boxesOf m c :=
  ext3 _ _ fun a b x => (Cert.ReferenceIdeal.Read.end_v265 m' c a b x).trans (congrArg (fun I => outBox I a b x) (same_inputs m m' c h0 h1 h2 h4))
theorem ref_scores : Cert.ReferenceIdeal.Read.atEnd m' c Cert.ReferenceIdeal.main_v276 = scoresOf m c :=
  ext2 _ _ fun a b => (Cert.ReferenceIdeal.Read.end_v276 m' c a b).trans (congrArg (fun I => outSc I a b) (same_inputs m m' c h0 h1 h2 h4))
theorem ref_labels : Cert.ReferenceIdeal.Read.atEnd m' c Cert.ReferenceIdeal.main_v275 = labelsOf m c :=
  ext2 _ _ fun a b => (Cert.ReferenceIdeal.Read.end_v275 m' c a b).trans (congrArg (fun I => outLab I a b) (same_inputs m m' c h0 h1 h2 h4))
end Reference

open Cert.ReferenceIdeal Cert.ReferenceIdeal.Gen Cert.ReferenceIdeal.Read Cert.ReferenceIdeal.Value in
/-- The reference's program leaves its arguments alone. -/
theorem ref_given (r : Ref Cert.ReferenceIdeal.sig .tc) (h : r ∉ condOps_W ++ bodyWs.flatten ∧ r ∉ postWs.flatten ∧ r ∉ preWs.flatten) :
    Cert.ReferenceIdeal.Read.atEnd m' c (Proc.devRef .tc r) = m' ((c.tc : Thread Cert.ReferenceIdeal.nD Cert.ReferenceIdeal.τ).loc r) :=
  Cert.ReferenceIdeal.Read.final_of m' c h.1 h.2.1 h.2.2

theorem algebraic : Cert.algebraic_KernelIdeal_ReferenceIdeal (hKernelIdeal := Cert.KernelIdeal.Gen.facts) (hReferenceIdeal := Cert.ReferenceIdeal.Gen.facts) := by
  intro m g m' g' _ hin
  refine ⟨fun c => boxesOf m c, fun c => scoresOf m c, fun c => labelsOf m c, ?_, ?_⟩
  · refine (θ_run _ _ _).mono (fun r h c => ?_) (Cert.KernelIdeal.Run.run m g)
    have hm := fun b hb => h.1 c _ (Cert.KernelIdeal.Run.mem_uc b hb)
    exact ⟨(hm _ (by decide)).trans (ker_boxes m c), (hm _ (by decide)).trans (ker_scores m c), (hm _ (by decide)).trans (ker_labels m c),
      (hm _ (by decide)).trans (Cert.KernelIdeal.Gen.V37_main_arg0 m _ c), (hm _ (by decide)).trans (Cert.KernelIdeal.Gen.V37_main_arg1 m _ c),
      (hm _ (by decide)).trans (Cert.KernelIdeal.Gen.V37_main_arg2 m _ c), (hm _ (by decide)).trans (Cert.KernelIdeal.Gen.V37_main_arg3 m _ c),
      (hm _ (by decide)).trans (Cert.KernelIdeal.Gen.V37_main_arg4 m _ c)⟩
  · refine (θ_run _ _ _).mono (fun r h c => ?_) (Cert.ReferenceIdeal.Value.run_fold m' g')
    obtain ⟨h0, h1, h2, -, h4⟩ := hin c
    exact ⟨(h c _ rfl).trans (ref_boxes m m' c h0 h1 h2 h4), (h c _ rfl).trans (ref_scores m m' c h0 h1 h2 h4),
      (h c _ rfl).trans (ref_labels m m' c h0 h1 h2 h4),
      (h c _ rfl).trans (ref_given m' c _ (by decide +kernel)), (h c _ rfl).trans (ref_given m' c _ (by decide +kernel)),
      (h c _ rfl).trans (ref_given m' c _ (by decide +kernel)), (h c _ rfl).trans (ref_given m' c _ (by decide +kernel)),
      (h c _ rfl).trans (ref_given m' c _ (by decide +kernel))⟩

end Cert.Agree
end
-- ==== Proof.lean ====
/- The certificate: the programs' stated facts, each program's frame, the rewrite ledger, and the equality of the kernel's and the
   reference's results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.RefRun
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    kernel_frame,
    fun m ρ _ => Cert.KernelIdeal.Run.frame m ρ,
    fun m ρ _ => Cert.ReferenceIdeal.Read.run m ρ,
    trivial,
    Cert.Agree.algebraic⟩

end Cert.Proof

end
